-- ==== Defs.lean ====
def Pre_Verify (m : (ℓ : Loc Cert.Verify.nD Cert.Verify.τ Cert.Verify.sig) → Buf (Elt Bits) ℓ) : Prop :=
  True

def Pre_VerifyIdeal (m : (ℓ : Loc Cert.VerifyIdeal.nD Cert.VerifyIdeal.τ Cert.VerifyIdeal.sig) → Buf (Elt Ideal) ℓ) : Prop :=
  True

def Pre_VerifyIdeal_scales_are_finite [hPre_scales_are_finite : Cert.Pre_scales_are_finite.Facts] (m : (ℓ : Loc Cert.VerifyIdeal.nD Cert.VerifyIdeal.τ Cert.VerifyIdeal.sig) → Buf (Elt Ideal) ℓ) : Prop :=
  ∀ c : Dev Cert.VerifyIdeal.nD,
    (Cert.Pre_scales_are_finite.fn (F := Ideal) (m ((c.tc : Thread Cert.VerifyIdeal.nD Cert.VerifyIdeal.τ).loc Cert.VerifyIdeal.main_arg0)) (m ((c.tc : Thread Cert.VerifyIdeal.nD Cert.VerifyIdeal.τ).loc Cert.VerifyIdeal.main_arg1)) (m ((c.tc : Thread Cert.VerifyIdeal.nD Cert.VerifyIdeal.τ).loc Cert.VerifyIdeal.main_arg2)) (m ((c.tc : Thread Cert.VerifyIdeal.nD Cert.VerifyIdeal.τ).loc Cert.VerifyIdeal.main_arg3)) (m ((c.tc : Thread Cert.VerifyIdeal.nD Cert.VerifyIdeal.τ).loc Cert.VerifyIdeal.main_arg4)) (m ((c.tc : Thread Cert.VerifyIdeal.nD Cert.VerifyIdeal.τ).loc Cert.VerifyIdeal.main_arg5)) (m ((c.tc : Thread Cert.VerifyIdeal.nD Cert.VerifyIdeal.τ).loc Cert.VerifyIdeal.main_arg6)) (m ((c.tc : Thread Cert.VerifyIdeal.nD Cert.VerifyIdeal.τ).loc Cert.VerifyIdeal.main_arg7)) (m ((c.tc : Thread Cert.VerifyIdeal.nD Cert.VerifyIdeal.τ).loc Cert.VerifyIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_finite [hPre_scales_are_finite : Cert.Pre_scales_are_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Verify [hVerify : Cert.Verify.Facts] : Prop :=
  ∀ (m : (ℓ : Loc Cert.Verify.nD Cert.Verify.τ Cert.Verify.sig) → Buf (Elt Bits) ℓ) (g : Dev Cert.Verify.nD → PrngReg), Pre_Verify m →
    θ_run (Cert.Verify.defs (F := Bits)) (onTc (τ := Cert.Verify.τ) (Cert.Verify.main (F := Bits))) ⟨m, fun _ => 0, g⟩ (fun r => (∀ c : Dev Cert.Verify.nD,
      r.2.mem ((c.tc : Thread Cert.Verify.nD Cert.Verify.τ).loc Cert.Verify.main_arg0) = m ((c.tc : Thread Cert.Verify.nD Cert.Verify.τ).loc Cert.Verify.main_arg0)
      ∧ r.2.mem ((c.tc : Thread Cert.Verify.nD Cert.Verify.τ).loc Cert.Verify.main_arg1) = m ((c.tc : Thread Cert.Verify.nD Cert.Verify.τ).loc Cert.Verify.main_arg1)
      ∧ r.2.mem ((c.tc : Thread Cert.Verify.nD Cert.Verify.τ).loc Cert.Verify.main_arg2) = m ((c.tc : Thread Cert.Verify.nD Cert.Verify.τ).loc Cert.Verify.main_arg2)
      ∧ r.2.mem ((c.tc : Thread Cert.Verify.nD Cert.Verify.τ).loc Cert.Verify.main_arg3) = m ((c.tc : Thread Cert.Verify.nD Cert.Verify.τ).loc Cert.Verify.main_arg3)
      ∧ r.2.mem ((c.tc : Thread Cert.Verify.nD Cert.Verify.τ).loc Cert.Verify.main_arg4) = m ((c.tc : Thread Cert.Verify.nD Cert.Verify.τ).loc Cert.Verify.main_arg4)
      ∧ r.2.mem ((c.tc : Thread Cert.Verify.nD Cert.Verify.τ).loc Cert.Verify.main_arg5) = m ((c.tc : Thread Cert.Verify.nD Cert.Verify.τ).loc Cert.Verify.main_arg5)
      ∧ r.2.mem ((c.tc : Thread Cert.Verify.nD Cert.Verify.τ).loc Cert.Verify.main_arg6) = m ((c.tc : Thread Cert.Verify.nD Cert.Verify.τ).loc Cert.Verify.main_arg6)
      ∧ r.2.mem ((c.tc : Thread Cert.Verify.nD Cert.Verify.τ).loc Cert.Verify.main_arg7) = m ((c.tc : Thread Cert.Verify.nD Cert.Verify.τ).loc Cert.Verify.main_arg7)
      ∧ r.2.mem ((c.tc : Thread Cert.Verify.nD Cert.Verify.τ).loc Cert.Verify.main_arg8) = m ((c.tc : Thread Cert.Verify.nD Cert.Verify.τ).loc Cert.Verify.main_arg8))
      ∧ r.2.sem = fun _ => 0)

def quiescent_VerifyIdeal [hVerifyIdeal : Cert.VerifyIdeal.Facts] : Prop :=
  ∀ (m : (ℓ : Loc Cert.VerifyIdeal.nD Cert.VerifyIdeal.τ Cert.VerifyIdeal.sig) → Buf (Elt Ideal) ℓ) (g : Dev Cert.VerifyIdeal.nD → PrngReg), Pre_VerifyIdeal m →
    θ_run (Cert.VerifyIdeal.defs (F := Ideal)) (onTc (τ := Cert.VerifyIdeal.τ) (Cert.VerifyIdeal.main (F := Ideal))) ⟨m, fun _ => 0, g⟩ (fun r => (∀ c : Dev Cert.VerifyIdeal.nD,
      r.2.mem ((c.tc : Thread Cert.VerifyIdeal.nD Cert.VerifyIdeal.τ).loc Cert.VerifyIdeal.main_arg0) = m ((c.tc : Thread Cert.VerifyIdeal.nD Cert.VerifyIdeal.τ).loc Cert.VerifyIdeal.main_arg0)
      ∧ r.2.mem ((c.tc : Thread Cert.VerifyIdeal.nD Cert.VerifyIdeal.τ).loc Cert.VerifyIdeal.main_arg1) = m ((c.tc : Thread Cert.VerifyIdeal.nD Cert.VerifyIdeal.τ).loc Cert.VerifyIdeal.main_arg1)
      ∧ r.2.mem ((c.tc : Thread Cert.VerifyIdeal.nD Cert.VerifyIdeal.τ).loc Cert.VerifyIdeal.main_arg2) = m ((c.tc : Thread Cert.VerifyIdeal.nD Cert.VerifyIdeal.τ).loc Cert.VerifyIdeal.main_arg2)
      ∧ r.2.mem ((c.tc : Thread Cert.VerifyIdeal.nD Cert.VerifyIdeal.τ).loc Cert.VerifyIdeal.main_arg3) = m ((c.tc : Thread Cert.VerifyIdeal.nD Cert.VerifyIdeal.τ).loc Cert.VerifyIdeal.main_arg3)
      ∧ r.2.mem ((c.tc : Thread Cert.VerifyIdeal.nD Cert.VerifyIdeal.τ).loc Cert.VerifyIdeal.main_arg4) = m ((c.tc : Thread Cert.VerifyIdeal.nD Cert.VerifyIdeal.τ).loc Cert.VerifyIdeal.main_arg4)
      ∧ r.2.mem ((c.tc : Thread Cert.VerifyIdeal.nD Cert.VerifyIdeal.τ).loc Cert.VerifyIdeal.main_arg5) = m ((c.tc : Thread Cert.VerifyIdeal.nD Cert.VerifyIdeal.τ).loc Cert.VerifyIdeal.main_arg5)
      ∧ r.2.mem ((c.tc : Thread Cert.VerifyIdeal.nD Cert.VerifyIdeal.τ).loc Cert.VerifyIdeal.main_arg6) = m ((c.tc : Thread Cert.VerifyIdeal.nD Cert.VerifyIdeal.τ).loc Cert.VerifyIdeal.main_arg6)
      ∧ r.2.mem ((c.tc : Thread Cert.VerifyIdeal.nD Cert.VerifyIdeal.τ).loc Cert.VerifyIdeal.main_arg7) = m ((c.tc : Thread Cert.VerifyIdeal.nD Cert.VerifyIdeal.τ).loc Cert.VerifyIdeal.main_arg7)
      ∧ r.2.mem ((c.tc : Thread Cert.VerifyIdeal.nD Cert.VerifyIdeal.τ).loc Cert.VerifyIdeal.main_arg8) = m ((c.tc : Thread Cert.VerifyIdeal.nD Cert.VerifyIdeal.τ).loc Cert.VerifyIdeal.main_arg8))
      ∧ r.2.sem = fun _ => 0)

def quiescent_VerifyIdeal_pre_scales_are_finite [hVerifyIdeal : Cert.VerifyIdeal.Facts] [hPre_scales_are_finite : Cert.Pre_scales_are_finite.Facts] : Prop :=
  ∀ (m : (ℓ : Loc Cert.VerifyIdeal.nD Cert.VerifyIdeal.τ Cert.VerifyIdeal.sig) → Buf (Elt Ideal) ℓ) (g : Dev Cert.VerifyIdeal.nD → PrngReg), Pre_VerifyIdeal_scales_are_finite m →
    θ_run (Cert.VerifyIdeal.defs (F := Ideal)) (onTc (τ := Cert.VerifyIdeal.τ) (Cert.VerifyIdeal.main (F := Ideal))) ⟨m, fun _ => 0, g⟩ (fun r => (∀ c : Dev Cert.VerifyIdeal.nD,
      r.2.mem ((c.tc : Thread Cert.VerifyIdeal.nD Cert.VerifyIdeal.τ).loc Cert.VerifyIdeal.main_arg0) = m ((c.tc : Thread Cert.VerifyIdeal.nD Cert.VerifyIdeal.τ).loc Cert.VerifyIdeal.main_arg0)
      ∧ r.2.mem ((c.tc : Thread Cert.VerifyIdeal.nD Cert.VerifyIdeal.τ).loc Cert.VerifyIdeal.main_arg1) = m ((c.tc : Thread Cert.VerifyIdeal.nD Cert.VerifyIdeal.τ).loc Cert.VerifyIdeal.main_arg1)
      ∧ r.2.mem ((c.tc : Thread Cert.VerifyIdeal.nD Cert.VerifyIdeal.τ).loc Cert.VerifyIdeal.main_arg2) = m ((c.tc : Thread Cert.VerifyIdeal.nD Cert.VerifyIdeal.τ).loc Cert.VerifyIdeal.main_arg2)
      ∧ r.2.mem ((c.tc : Thread Cert.VerifyIdeal.nD Cert.VerifyIdeal.τ).loc Cert.VerifyIdeal.main_arg3) = m ((c.tc : Thread Cert.VerifyIdeal.nD Cert.VerifyIdeal.τ).loc Cert.VerifyIdeal.main_arg3)
      ∧ r.2.mem ((c.tc : Thread Cert.VerifyIdeal.nD Cert.VerifyIdeal.τ).loc Cert.VerifyIdeal.main_arg4) = m ((c.tc : Thread Cert.VerifyIdeal.nD Cert.VerifyIdeal.τ).loc Cert.VerifyIdeal.main_arg4)
      ∧ r.2.mem ((c.tc : Thread Cert.VerifyIdeal.nD Cert.VerifyIdeal.τ).loc Cert.VerifyIdeal.main_arg5) = m ((c.tc : Thread Cert.VerifyIdeal.nD Cert.VerifyIdeal.τ).loc Cert.VerifyIdeal.main_arg5)
      ∧ r.2.mem ((c.tc : Thread Cert.VerifyIdeal.nD Cert.VerifyIdeal.τ).loc Cert.VerifyIdeal.main_arg6) = m ((c.tc : Thread Cert.VerifyIdeal.nD Cert.VerifyIdeal.τ).loc Cert.VerifyIdeal.main_arg6)
      ∧ r.2.mem ((c.tc : Thread Cert.VerifyIdeal.nD Cert.VerifyIdeal.τ).loc Cert.VerifyIdeal.main_arg7) = m ((c.tc : Thread Cert.VerifyIdeal.nD Cert.VerifyIdeal.τ).loc Cert.VerifyIdeal.main_arg7)
      ∧ r.2.mem ((c.tc : Thread Cert.VerifyIdeal.nD Cert.VerifyIdeal.τ).loc Cert.VerifyIdeal.main_arg8) = m ((c.tc : Thread Cert.VerifyIdeal.nD Cert.VerifyIdeal.τ).loc Cert.VerifyIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scales_are_finite [hReferenceIdeal : Cert.ReferenceIdeal.Facts] [hPre_scales_are_finite : Cert.Pre_scales_are_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Verify_VerifyIdeal : Prop :=
  True

def algebraic_VerifyIdeal_ReferenceIdeal_pre_scales_are_finite [hVerifyIdeal : Cert.VerifyIdeal.Facts] [hReferenceIdeal : Cert.ReferenceIdeal.Facts] [hPre_scales_are_finite : Cert.Pre_scales_are_finite.Facts] : Prop :=
  ∀ (m : (ℓ : Loc Cert.VerifyIdeal.nD Cert.VerifyIdeal.τ Cert.VerifyIdeal.sig) → Buf (Elt Ideal) ℓ) (g : Dev Cert.VerifyIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_VerifyIdeal_scales_are_finite m →
    (∀ c : Dev Cert.VerifyIdeal.nD,
      m' ((c.tc : Thread Cert.ReferenceIdeal.nD Cert.ReferenceIdeal.τ).loc Cert.ReferenceIdeal.main_arg0) = m ((c.tc : Thread Cert.VerifyIdeal.nD Cert.VerifyIdeal.τ).loc Cert.VerifyIdeal.main_arg0)
      ∧ m' ((c.tc : Thread Cert.ReferenceIdeal.nD Cert.ReferenceIdeal.τ).loc Cert.ReferenceIdeal.main_arg1) = m ((c.tc : Thread Cert.VerifyIdeal.nD Cert.VerifyIdeal.τ).loc Cert.VerifyIdeal.main_arg1)
      ∧ m' ((c.tc : Thread Cert.ReferenceIdeal.nD Cert.ReferenceIdeal.τ).loc Cert.ReferenceIdeal.main_arg2) = m ((c.tc : Thread Cert.VerifyIdeal.nD Cert.VerifyIdeal.τ).loc Cert.VerifyIdeal.main_arg2)
      ∧ m' ((c.tc : Thread Cert.ReferenceIdeal.nD Cert.ReferenceIdeal.τ).loc Cert.ReferenceIdeal.main_arg3) = m ((c.tc : Thread Cert.VerifyIdeal.nD Cert.VerifyIdeal.τ).loc Cert.VerifyIdeal.main_arg3)
      ∧ m' ((c.tc : Thread Cert.ReferenceIdeal.nD Cert.ReferenceIdeal.τ).loc Cert.ReferenceIdeal.main_arg4) = m ((c.tc : Thread Cert.VerifyIdeal.nD Cert.VerifyIdeal.τ).loc Cert.VerifyIdeal.main_arg4)
      ∧ m' ((c.tc : Thread Cert.ReferenceIdeal.nD Cert.ReferenceIdeal.τ).loc Cert.ReferenceIdeal.main_arg5) = m ((c.tc : Thread Cert.VerifyIdeal.nD Cert.VerifyIdeal.τ).loc Cert.VerifyIdeal.main_arg5)
      ∧ m' ((c.tc : Thread Cert.ReferenceIdeal.nD Cert.ReferenceIdeal.τ).loc Cert.ReferenceIdeal.main_arg6) = m ((c.tc : Thread Cert.VerifyIdeal.nD Cert.VerifyIdeal.τ).loc Cert.VerifyIdeal.main_arg6)
      ∧ m' ((c.tc : Thread Cert.ReferenceIdeal.nD Cert.ReferenceIdeal.τ).loc Cert.ReferenceIdeal.main_arg7) = m ((c.tc : Thread Cert.VerifyIdeal.nD Cert.VerifyIdeal.τ).loc Cert.VerifyIdeal.main_arg7)
      ∧ m' ((c.tc : Thread Cert.ReferenceIdeal.nD Cert.ReferenceIdeal.τ).loc Cert.ReferenceIdeal.main_arg8) = m ((c.tc : Thread Cert.VerifyIdeal.nD Cert.VerifyIdeal.τ).loc Cert.VerifyIdeal.main_arg8)) →
    ∃ (v0 : (c : Dev Cert.VerifyIdeal.nD) → Buf (Elt Ideal) ((c.tc : Thread Cert.VerifyIdeal.nD Cert.VerifyIdeal.τ).loc Cert.VerifyIdeal.main_v11)) (v1 : (c : Dev Cert.VerifyIdeal.nD) → Buf (Elt Ideal) ((c.tc : Thread Cert.VerifyIdeal.nD Cert.VerifyIdeal.τ).loc Cert.VerifyIdeal.main_v12)) (v2 : (c : Dev Cert.VerifyIdeal.nD) → Buf (Elt Ideal) ((c.tc : Thread Cert.VerifyIdeal.nD Cert.VerifyIdeal.τ).loc Cert.VerifyIdeal.main_v13)) (v3 : (c : Dev Cert.VerifyIdeal.nD) → Buf (Elt Ideal) ((c.tc : Thread Cert.VerifyIdeal.nD Cert.VerifyIdeal.τ).loc Cert.VerifyIdeal.main_v14)) (v4 : (c : Dev Cert.VerifyIdeal.nD) → Buf (Elt Ideal) ((c.tc : Thread Cert.VerifyIdeal.nD Cert.VerifyIdeal.τ).loc Cert.VerifyIdeal.main_v10)),
      θ_run (Cert.VerifyIdeal.defs (F := Ideal)) (onTc (τ := Cert.VerifyIdeal.τ) (Cert.VerifyIdeal.main (F := Ideal))) ⟨m, fun _ => 0, g⟩ (fun r => ∀ c : Dev Cert.VerifyIdeal.nD,
          r.2.mem ((c.tc : Thread Cert.VerifyIdeal.nD Cert.VerifyIdeal.τ).loc Cert.VerifyIdeal.main_v11) = v0 c
          ∧ r.2.mem ((c.tc : Thread Cert.VerifyIdeal.nD Cert.VerifyIdeal.τ).loc Cert.VerifyIdeal.main_v12) = v1 c
          ∧ r.2.mem ((c.tc : Thread Cert.VerifyIdeal.nD Cert.VerifyIdeal.τ).loc Cert.VerifyIdeal.main_v13) = v2 c
          ∧ r.2.mem ((c.tc : Thread Cert.VerifyIdeal.nD Cert.VerifyIdeal.τ).loc Cert.VerifyIdeal.main_v14) = v3 c
          ∧ r.2.mem ((c.tc : Thread Cert.VerifyIdeal.nD Cert.VerifyIdeal.τ).loc Cert.VerifyIdeal.main_v10) = v4 c
          ∧ r.2.mem ((c.tc : Thread Cert.VerifyIdeal.nD Cert.VerifyIdeal.τ).loc Cert.VerifyIdeal.main_arg0) = m ((c.tc : Thread Cert.VerifyIdeal.nD Cert.VerifyIdeal.τ).loc Cert.VerifyIdeal.main_arg0)
          ∧ r.2.mem ((c.tc : Thread Cert.VerifyIdeal.nD Cert.VerifyIdeal.τ).loc Cert.VerifyIdeal.main_arg1) = m ((c.tc : Thread Cert.VerifyIdeal.nD Cert.VerifyIdeal.τ).loc Cert.VerifyIdeal.main_arg1)
          ∧ r.2.mem ((c.tc : Thread Cert.VerifyIdeal.nD Cert.VerifyIdeal.τ).loc Cert.VerifyIdeal.main_arg2) = m ((c.tc : Thread Cert.VerifyIdeal.nD Cert.VerifyIdeal.τ).loc Cert.VerifyIdeal.main_arg2)
          ∧ r.2.mem ((c.tc : Thread Cert.VerifyIdeal.nD Cert.VerifyIdeal.τ).loc Cert.VerifyIdeal.main_arg3) = m ((c.tc : Thread Cert.VerifyIdeal.nD Cert.VerifyIdeal.τ).loc Cert.VerifyIdeal.main_arg3)
          ∧ r.2.mem ((c.tc : Thread Cert.VerifyIdeal.nD Cert.VerifyIdeal.τ).loc Cert.VerifyIdeal.main_arg4) = m ((c.tc : Thread Cert.VerifyIdeal.nD Cert.VerifyIdeal.τ).loc Cert.VerifyIdeal.main_arg4)
          ∧ r.2.mem ((c.tc : Thread Cert.VerifyIdeal.nD Cert.VerifyIdeal.τ).loc Cert.VerifyIdeal.main_arg5) = m ((c.tc : Thread Cert.VerifyIdeal.nD Cert.VerifyIdeal.τ).loc Cert.VerifyIdeal.main_arg5)
          ∧ r.2.mem ((c.tc : Thread Cert.VerifyIdeal.nD Cert.VerifyIdeal.τ).loc Cert.VerifyIdeal.main_arg6) = m ((c.tc : Thread Cert.VerifyIdeal.nD Cert.VerifyIdeal.τ).loc Cert.VerifyIdeal.main_arg6)
          ∧ r.2.mem ((c.tc : Thread Cert.VerifyIdeal.nD Cert.VerifyIdeal.τ).loc Cert.VerifyIdeal.main_arg7) = m ((c.tc : Thread Cert.VerifyIdeal.nD Cert.VerifyIdeal.τ).loc Cert.VerifyIdeal.main_arg7)
          ∧ r.2.mem ((c.tc : Thread Cert.VerifyIdeal.nD Cert.VerifyIdeal.τ).loc Cert.VerifyIdeal.main_arg8) = m ((c.tc : Thread Cert.VerifyIdeal.nD Cert.VerifyIdeal.τ).loc Cert.VerifyIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v75) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hVerify : Cert.Verify.Facts) (hVerifyIdeal : Cert.VerifyIdeal.Facts) (hReferenceIdeal : Cert.ReferenceIdeal.Facts) (hPre_scales_are_finite : Cert.Pre_scales_are_finite.Facts),
    quiescent_Verify (hVerify := hVerify)
    ∧ quiescent_VerifyIdeal (hVerifyIdeal := hVerifyIdeal)
    ∧ quiescent_VerifyIdeal_pre_scales_are_finite (hVerifyIdeal := hVerifyIdeal) (hPre_scales_are_finite := hPre_scales_are_finite)
    ∧ quiescent_ReferenceIdeal (hReferenceIdeal := hReferenceIdeal)
    ∧ quiescent_ReferenceIdeal_pre_scales_are_finite (hReferenceIdeal := hReferenceIdeal) (hPre_scales_are_finite := hPre_scales_are_finite)
    ∧ preserves_Verify_VerifyIdeal
    ∧ algebraic_VerifyIdeal_ReferenceIdeal_pre_scales_are_finite (hVerifyIdeal := hVerifyIdeal) (hReferenceIdeal := hReferenceIdeal) (hPre_scales_are_finite := hPre_scales_are_finite)
-- ==== Pre_scales_are_finite.lean ====
abbrev S272x9x4096 : Shape := ⟨3, ![272, 9, 4096]⟩
abbrev S2048x32000 : Shape := ⟨2, ![2048, 32000]⟩
abbrev S32x32000 : Shape := ⟨2, ![32, 32000]⟩
abbrev S2176x1536 : Shape := ⟨2, ![2176, 1536]⟩
abbrev S2176x128 : Shape := ⟨2, ![2176, 128]⟩
abbrev S1536x32000 : Shape := ⟨2, ![1536, 32000]⟩
abbrev S32000 : Shape := ⟨1, ![32000]⟩
abbrev S272x8 : Shape := ⟨2, ![272, 8]⟩
abbrev S2176x1 : Shape := ⟨2, ![2176, 1]⟩
abbrev S2176 : Shape := ⟨1, ![2176]⟩
abbrev S_ : Shape := ⟨0, ![]⟩

class Facts : Prop where
  slices_S2176x128_S2176x1_0_0 : S2176x128.Slices ![0, 0] S2176x1
  shapeCasts_S2176x1_S2176 : S2176x1.ShapeCasts S2176
  bcast_S_S2176 : S_.BroadcastsInDim S2176 (![] : Fin 0 → Fin S2176.rank)

variable [Facts]

def fn {F : FTy → Type} [FloatOps F] (main_arg0 : FVec F S272x9x4096 .bf16) (main_arg1 : IVec S2048x32000 8) (main_arg2 : FVec F S32x32000 .f32) (main_arg3 : FVec F S2176x1536 .fp8e4m3) (main_arg4 : FVec F S2176x128 .f32) (main_arg5 : FVec F S1536x32000 .fp8e4m3) (main_arg6 : FVec F S32000 .f32) (main_arg7 : IVec S272x8 32) (main_arg8 : FVec F S272x8 .f32) : IVec S2176 1 :=
  let main_v0 : FVec F S2176x1 .f32 := (extractStridedSlice S2176x1 ![0, 0] · slices_S2176x128_S2176x1_0_0) main_arg4
  let main_v1 : FVec F S2176 .f32 := shapeCast S2176 main_v0 shapeCasts_S2176x1_S2176
  let main_cst : FVec F S_ .f32 := constant S_ .f32 0x00000000#32
  let main_v2 : FVec F S2176 .f32 := broadcastInDim S2176 ![] bcast_S_S2176 main_cst
  let main_v3 : IVec S2176 1 := cmpf .oge main_v1 main_v2
  let main_cst_0 : FVec F S_ .f32 := constant S_ .f32 0x7F800000#32
  let main_v4 : FVec F S2176 .f32 := broadcastInDim S2176 ![] bcast_S_S2176 main_cst_0
  let main_v5 : IVec S2176 1 := cmpf .olt main_v1 main_v4
  let main_v6 : IVec S2176 1 := andi main_v3 main_v5
  main_v6
-- ==== Verify.lean ====
abbrev S272x9x4096 : Shape := ⟨3, ![272, 9, 4096]⟩
abbrev S2048x32000 : Shape := ⟨2, ![2048, 32000]⟩
abbrev S32x32000 : Shape := ⟨2, ![32, 32000]⟩
abbrev S2176x1536 : Shape := ⟨2, ![2176, 1536]⟩
abbrev S2176x128 : Shape := ⟨2, ![2176, 128]⟩
abbrev S1536x32000 : Shape := ⟨2, ![1536, 32000]⟩
abbrev S32000 : Shape := ⟨1, ![32000]⟩
abbrev S272x8 : Shape := ⟨2, ![272, 8]⟩
abbrev S272x8x4096 : Shape := ⟨3, ![272, 8, 4096]⟩
abbrev S2176x4096 : Shape := ⟨2, ![2176, 4096]⟩
abbrev S272x1x4096 : Shape := ⟨3, ![272, 1, 4096]⟩
abbrev S272x4096 : Shape := ⟨2, ![272, 4096]⟩
abbrev S2448x4096 : Shape := ⟨2, ![2448, 4096]⟩
abbrev S1x32000 : Shape := ⟨2, ![1, 32000]⟩
abbrev S2448x32000 : Shape := ⟨2, ![2448, 32000]⟩
abbrev S2176x32000 : Shape := ⟨2, ![2176, 32000]⟩
abbrev S2448x128 : Shape := ⟨2, ![2448, 128]⟩
abbrev S2048x256 : Shape := ⟨2, ![2048, 256]⟩
abbrev S32x256 : Shape := ⟨2, ![32, 256]⟩
abbrev S1536x256 : Shape := ⟨2, ![1536, 256]⟩
abbrev S1x256 : Shape := ⟨2, ![1, 256]⟩
abbrev S2448x256 : Shape := ⟨2, ![2448, 256]⟩
abbrev S2176x256 : Shape := ⟨2, ![2176, 256]⟩
abbrev S4096x256 : Shape := ⟨2, ![4096, 256]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S2176x1 : Shape := ⟨2, ![2176, 1]⟩
abbrev S8x1 : Shape := ⟨2, ![8, 1]⟩
abbrev S8x32000 : Shape := ⟨2, ![8, 32000]⟩
abbrev S8x128 : Shape := ⟨2, ![8, 128]⟩
abbrev S8 : Shape := ⟨1, ![8]⟩
abbrev S128x128 : Shape := ⟨2, ![128, 128]⟩
abbrev S272x32000 : Shape := ⟨2, ![272, 32000]⟩
abbrev S272x8x32000 : Shape := ⟨3, ![272, 8, 32000]⟩

abbrev nBuf : Space → Nat
  | .hbm => 30
  | .vmem => 45
  | .smem => 0
  | _ => 0

abbrev bufTy : (tb : Table) → Fin (tcTables nBuf tb) → BufTy
  | .hbm, ⟨0, _⟩ => ⟨S272x9x4096, .bf16⟩
  | .hbm, ⟨1, _⟩ => ⟨S2048x32000, .i8⟩
  | .hbm, ⟨2, _⟩ => ⟨S32x32000, .f32⟩
  | .hbm, ⟨3, _⟩ => ⟨S2176x1536, .fp8e4m3⟩
  | .hbm, ⟨4, _⟩ => ⟨S2176x128, .f32⟩
  | .hbm, ⟨5, _⟩ => ⟨S1536x32000, .fp8e4m3⟩
  | .hbm, ⟨6, _⟩ => ⟨S32000, .f32⟩
  | .hbm, ⟨7, _⟩ => ⟨S272x8, .i32⟩
  | .hbm, ⟨8, _⟩ => ⟨S272x8, .f32⟩
  | .hbm, ⟨9, _⟩ => ⟨S272x8x4096, .bf16⟩
  | .hbm, ⟨10, _⟩ => ⟨S2176x4096, .bf16⟩
  | .hbm, ⟨11, _⟩ => ⟨S272x1x4096, .bf16⟩
  | .hbm, ⟨12, _⟩ => ⟨S272x4096, .bf16⟩
  | .hbm, ⟨13, _⟩ => ⟨S2448x4096, .bf16⟩
  | .hbm, ⟨14, _⟩ => ⟨S1x32000, .f32⟩
  | .hbm, ⟨15, _⟩ => ⟨S2448x32000, .f32⟩
  | .hbm, ⟨16, _⟩ => ⟨S2176x32000, .f32⟩
  | .hbm, ⟨17, _⟩ => ⟨S2448x128, .f32⟩
  | .hbm, ⟨18, _⟩ => ⟨S2176x128, .f32⟩
  | .hbm, ⟨19, _⟩ => ⟨S2176x1, .i32⟩
  | .hbm, ⟨20, _⟩ => ⟨S2176x1, .f32⟩
  | .hbm, ⟨21, _⟩ => ⟨S2176x32000, .bf16⟩
  | .hbm, ⟨22, _⟩ => ⟨S2176x1, .f32⟩
  | .hbm, ⟨23, _⟩ => ⟨S2176x1, .f32⟩
  | .hbm, ⟨24, _⟩ => ⟨S2176x1, .f32⟩
  | .hbm, ⟨25, _⟩ => ⟨S272x32000, .bf16⟩
  | .hbm, ⟨26, _⟩ => ⟨S272x8x32000, .bf16⟩
  | .hbm, ⟨27, _⟩ => ⟨S272x8, .f32⟩
  | .hbm, ⟨28, _⟩ => ⟨S272x8, .f32⟩
  | .hbm, ⟨29, _⟩ => ⟨S272x8, .f32⟩
  | .local _ .vmem, ⟨0, _⟩ => ⟨S2448x4096, .bf16⟩
  | .local _ .vmem, ⟨1, _⟩ => ⟨S2176x1536, .fp8e4m3⟩
  | .local _ .vmem, ⟨2, _⟩ => ⟨S2048x256, .i8⟩
  | .local _ .vmem, ⟨3, _⟩ => ⟨S2048x256, .i8⟩
  | .local _ .vmem, ⟨4, _⟩ => ⟨S32x256, .f32⟩
  | .local _ .vmem, ⟨5, _⟩ => ⟨S32x256, .f32⟩
  | .local _ .vmem, ⟨6, _⟩ => ⟨S1536x256, .fp8e4m3⟩
  | .local _ .vmem, ⟨7, _⟩ => ⟨S1536x256, .fp8e4m3⟩
  | .local _ .vmem, ⟨8, _⟩ => ⟨S1x256, .f32⟩
  | .local _ .vmem, ⟨9, _⟩ => ⟨S1x256, .f32⟩
  | .local _ .vmem, ⟨10, _⟩ => ⟨S2448x256, .f32⟩
  | .local _ .vmem, ⟨11, _⟩ => ⟨S2448x256, .f32⟩
  | .local _ .vmem, ⟨12, _⟩ => ⟨S2176x256, .f32⟩
  | .local _ .vmem, ⟨13, _⟩ => ⟨S2176x256, .f32⟩
  | .local _ .vmem, ⟨14, _⟩ => ⟨S2448x128, .f32⟩
  | .local _ .vmem, ⟨15, _⟩ => ⟨S2176x128, .f32⟩
  | .local _ .vmem, ⟨16, _⟩ => ⟨S4096x256, .bf16⟩
  | .local _ .vmem, ⟨17, _⟩ => ⟨S8x1, .i32⟩
  | .local _ .vmem, ⟨18, _⟩ => ⟨S8x1, .i32⟩
  | .local _ .vmem, ⟨19, _⟩ => ⟨S8x32000, .f32⟩
  | .local _ .vmem, ⟨20, _⟩ => ⟨S8x32000, .f32⟩
  | .local _ .vmem, ⟨21, _⟩ => ⟨S8x32000, .f32⟩
  | .local _ .vmem, ⟨22, _⟩ => ⟨S8x32000, .f32⟩
  | .local _ .vmem, ⟨23, _⟩ => ⟨S8x128, .f32⟩
  | .local _ .vmem, ⟨24, _⟩ => ⟨S8x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S8x1, .f32⟩
  | .local _ .vmem, ⟨30, _⟩ => ⟨S8x1, .f32⟩
  | .local _ .vmem, ⟨31, _⟩ => ⟨S8x32000, .bf16⟩
  | .local _ .vmem, ⟨32, _⟩ => ⟨S8x32000, .bf16⟩
  | .local _ .vmem, ⟨33, _⟩ => ⟨S8x1, .f32⟩
  | .local _ .vmem, ⟨34, _⟩ => ⟨S8x1, .f32⟩
  | .local _ .vmem, ⟨35, _⟩ => ⟨S8x1, .f32⟩
  | .local _ .vmem, ⟨36, _⟩ => ⟨S8x1, .f32⟩
  | .local _ .vmem, ⟨37, _⟩ => ⟨S8x1, .f32⟩
  | .local _ .vmem, ⟨38, _⟩ => ⟨S8x1, .f32⟩
  | .local _ .vmem, ⟨39, _⟩ => ⟨S8x32000, .f32⟩
  | .local _ .vmem, ⟨40, _⟩ => ⟨S8x32000, .f32⟩
  | .local _ .vmem, ⟨41, _⟩ => ⟨S8x128, .f32⟩
  | .local _ .vmem, ⟨42, _⟩ => ⟨S8x128, .f32⟩
  | .local _ .vmem, ⟨43, _⟩ => ⟨S8x32000, .bf16⟩
  | .local _ .vmem, ⟨44, _⟩ => ⟨S8x32000, .bf16⟩
  | _, _ => ⟨S272x9x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc2_stg0_0 : Ref sig .tc := ⟨.vmem, 39, rfl⟩
abbrev cc2_stg0_1 : Ref sig .tc := ⟨.vmem, 40, rfl⟩
abbrev cc2_stg1_0 : Ref sig .tc := ⟨.vmem, 41, rfl⟩
abbrev cc2_stg1_1 : Ref sig .tc := ⟨.vmem, 42, rfl⟩
abbrev cc2_stg2_0 : Ref sig .tc := ⟨.vmem, 43, rfl⟩
abbrev cc2_stg2_1 : Ref sig .tc := ⟨.vmem, 44, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2448x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2176x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2448x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2176x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2448x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2176x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![272], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x32000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x32000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x32000 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![34], ![false]⟩

def cc2_transform_0 (i : grid2.Coords) : Fin 2 → Nat :=
  let arg0 : BitVec 32 := BitVec.ofNat 32 (i 0).val
  let c272_i32 : BitVec 32 := 272#32
  let v0 : BitVec 32 := Scalar.addi arg0 c272_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c272_i32 : BitVec 32 := 272#32
  let v0 : BitVec 32 := Scalar.addi arg0 c272_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x32000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x32000 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S272x9x4096 : Shape := ⟨3, ![272, 9, 4096]⟩
abbrev S2048x32000 : Shape := ⟨2, ![2048, 32000]⟩
abbrev S32x32000 : Shape := ⟨2, ![32, 32000]⟩
abbrev S2176x1536 : Shape := ⟨2, ![2176, 1536]⟩
abbrev S2176x128 : Shape := ⟨2, ![2176, 128]⟩
abbrev S1536x32000 : Shape := ⟨2, ![1536, 32000]⟩
abbrev S32000 : Shape := ⟨1, ![32000]⟩
abbrev S272x8 : Shape := ⟨2, ![272, 8]⟩
abbrev S2176x1 : Shape := ⟨2, ![2176, 1]⟩
abbrev S2176 : Shape := ⟨1, ![2176]⟩
abbrev S2176x32000 : Shape := ⟨2, ![2176, 32000]⟩
abbrev S272x8x32000 : Shape := ⟨3, ![272, 8, 32000]⟩
abbrev S272x8x1 : Shape := ⟨3, ![272, 8, 1]⟩
abbrev S1x1x32000 : Shape := ⟨3, ![1, 1, 32000]⟩
abbrev S32x64x32000 : Shape := ⟨3, ![32, 64, 32000]⟩
abbrev S32x1x32000 : Shape := ⟨3, ![32, 1, 32000]⟩
abbrev S_ : Shape := ⟨0, ![]⟩
abbrev S272x9x32x64x2 : Shape := ⟨5, ![272, 9, 32, 64, 2]⟩
abbrev S272x9x32x64x1 : Shape := ⟨5, ![272, 9, 32, 64, 1]⟩
abbrev S272x9x32x64 : Shape := ⟨4, ![272, 9, 32, 64]⟩
abbrev S272x9x32000 : Shape := ⟨3, ![272, 9, 32000]⟩
abbrev S272x9 : Shape := ⟨2, ![272, 9]⟩
abbrev S272x9x1 : Shape := ⟨3, ![272, 9, 1]⟩
abbrev S272x1x32000 : Shape := ⟨3, ![272, 1, 32000]⟩
abbrev S272x32000 : Shape := ⟨2, ![272, 32000]⟩

abbrev nBuf : Space → Nat
  | .hbm => 118
  | .vmem => 3
  | .smem => 0
  | _ => 0

abbrev bufTy : (tb : Table) → Fin (tcTables nBuf tb) → BufTy
  | .hbm, ⟨0, _⟩ => ⟨S272x9x4096, .bf16⟩
  | .hbm, ⟨1, _⟩ => ⟨S2048x32000, .i8⟩
  | .hbm, ⟨2, _⟩ => ⟨S32x32000, .f32⟩
  | .hbm, ⟨3, _⟩ => ⟨S2176x1536, .fp8e4m3⟩
  | .hbm, ⟨4, _⟩ => ⟨S2176x128, .f32⟩
  | .hbm, ⟨5, _⟩ => ⟨S1536x32000, .fp8e4m3⟩
  | .hbm, ⟨6, _⟩ => ⟨S32000, .f32⟩
  | .hbm, ⟨7, _⟩ => ⟨S272x8, .i32⟩
  | .hbm, ⟨8, _⟩ => ⟨S272x8, .f32⟩
  | .hbm, ⟨9, _⟩ => ⟨S2176x1, .f32⟩
  | .hbm, ⟨10, _⟩ => ⟨S2176, .f32⟩
  | .hbm, ⟨11, _⟩ => ⟨S272x8, .f32⟩
  | .hbm, ⟨12, _⟩ => ⟨S2176x32000, .f32⟩
  | .hbm, ⟨13, _⟩ => ⟨S272x8x32000, .f32⟩
  | .hbm, ⟨14, _⟩ => ⟨S272x8x1, .f32⟩
  | .hbm, ⟨15, _⟩ => ⟨S272x8x32000, .f32⟩
  | .hbm, ⟨16, _⟩ => ⟨S272x8x32000, .f32⟩
  | .hbm, ⟨17, _⟩ => ⟨S1x1x32000, .f32⟩
  | .hbm, ⟨18, _⟩ => ⟨S272x8x32000, .f32⟩
  | .hbm, ⟨19, _⟩ => ⟨S272x8x32000, .f32⟩
  | .hbm, ⟨20, _⟩ => ⟨S2048x32000, .i32⟩
  | .hbm, ⟨21, _⟩ => ⟨S32x64x32000, .i32⟩
  | .hbm, ⟨22, _⟩ => ⟨S32x32000, .bf16⟩
  | .hbm, ⟨23, _⟩ => ⟨S32x1x32000, .bf16⟩
  | .hbm, ⟨24, _⟩ => ⟨S_, .i32⟩
  | .hbm, ⟨25, _⟩ => ⟨S32x64x32000, .i32⟩
  | .hbm, ⟨26, _⟩ => ⟨S32x64x32000, .i32⟩
  | .hbm, ⟨27, _⟩ => ⟨S_, .i32⟩
  | .hbm, ⟨28, _⟩ => ⟨S32x64x32000, .i32⟩
  | .hbm, ⟨29, _⟩ => ⟨S32x64x32000, .i1⟩
  | .hbm, ⟨30, _⟩ => ⟨S32x64x32000, .i32⟩
  | .hbm, ⟨31, _⟩ => ⟨S_, .i32⟩
  | .hbm, ⟨32, _⟩ => ⟨S32x64x32000, .i32⟩
  | .hbm, ⟨33, _⟩ => ⟨S32x64x32000, .i32⟩
  | .hbm, ⟨34, _⟩ => ⟨S32x64x32000, .i32⟩
  | .hbm, ⟨35, _⟩ => ⟨S32x64x32000, .bf16⟩
  | .hbm, ⟨36, _⟩ => ⟨S32x64x32000, .bf16⟩
  | .hbm, ⟨37, _⟩ => ⟨S32x64x32000, .bf16⟩
  | .hbm, ⟨38, _⟩ => ⟨S_, .i32⟩
  | .hbm, ⟨39, _⟩ => ⟨S32x64x32000, .i32⟩
  | .hbm, ⟨40, _⟩ => ⟨S32x64x32000, .i32⟩
  | .hbm, ⟨41, _⟩ => ⟨S_, .i32⟩
  | .hbm, ⟨42, _⟩ => ⟨S32x64x32000, .i32⟩
  | .hbm, ⟨43, _⟩ => ⟨S32x64x32000, .i1⟩
  | .hbm, ⟨44, _⟩ => ⟨S32x64x32000, .i32⟩
  | .hbm, ⟨45, _⟩ => ⟨S_, .i32⟩
  | .hbm, ⟨46, _⟩ => ⟨S32x64x32000, .i32⟩
  | .hbm, ⟨47, _⟩ => ⟨S32x64x32000, .i32⟩
  | .hbm, ⟨48, _⟩ => ⟨S32x64x32000, .i32⟩
  | .hbm, ⟨49, _⟩ => ⟨S32x64x32000, .bf16⟩
  | .hbm, ⟨50, _⟩ => ⟨S32x64x32000, .bf16⟩
  | .hbm, ⟨51, _⟩ => ⟨S32x64x32000, .bf16⟩
  | .hbm, ⟨52, _⟩ => ⟨S272x9x32x64x2, .bf16⟩
  | .hbm, ⟨53, _⟩ => ⟨S272x9x32x64x1, .bf16⟩
  | .hbm, ⟨54, _⟩ => ⟨S272x9x32x64, .bf16⟩
  | .hbm, ⟨55, _⟩ => ⟨S272x9x32000, .f32⟩
  | .hbm, ⟨56, _⟩ => ⟨S272x9x32x64x1, .bf16⟩
  | .hbm, ⟨57, _⟩ => ⟨S272x9x32x64, .bf16⟩
  | .hbm, ⟨58, _⟩ => ⟨S272x9x32000, .f32⟩
  | .hbm, ⟨59, _⟩ => ⟨S272x9x32000, .f32⟩
  | .hbm, ⟨60, _⟩ => ⟨S_, .f32⟩
  | .hbm, ⟨61, _⟩ => ⟨S272x8, .f32⟩
  | .hbm, ⟨62, _⟩ => ⟨S272x8x1, .f32⟩
  | .hbm, ⟨63, _⟩ => ⟨S272x8x32000, .f32⟩
  | .hbm, ⟨64, _⟩ => ⟨S272x8x32000, .f32⟩
  | .hbm, ⟨65, _⟩ => ⟨S272x8x32000, .f32⟩
  | .hbm, ⟨66, _⟩ => ⟨S_, .f32⟩
  | .hbm, ⟨67, _⟩ => ⟨S272x8, .f32⟩
  | .hbm, ⟨68, _⟩ => ⟨S272x8x1, .f32⟩
  | .hbm, ⟨69, _⟩ => ⟨S272x8x32000, .f32⟩
  | .hbm, ⟨70, _⟩ => ⟨S272x8x32000, .f32⟩
  | .hbm, ⟨71, _⟩ => ⟨S_, .f32⟩
  | .hbm, ⟨72, _⟩ => ⟨S272x9, .f32⟩
  | .hbm, ⟨73, _⟩ => ⟨S272x9x1, .f32⟩
  | .hbm, ⟨74, _⟩ => ⟨S272x9x32000, .f32⟩
  | .hbm, ⟨75, _⟩ => ⟨S272x9x32000, .f32⟩
  | .hbm, ⟨76, _⟩ => ⟨S272x9x32000, .f32⟩
  | .hbm, ⟨77, _⟩ => ⟨S_, .f32⟩
  | .hbm, ⟨78, _⟩ => ⟨S272x9, .f32⟩
  | .hbm, ⟨79, _⟩ => ⟨S272x9x1, .f32⟩
  | .hbm, ⟨80, _⟩ => ⟨S272x9x32000, .f32⟩
  | .hbm, ⟨81, _⟩ => ⟨S272x9x32000, .f32⟩
  | .hbm, ⟨82, _⟩ => ⟨S272x8x32000, .f32⟩
  | .hbm, ⟨83, _⟩ => ⟨S272x8x32000, .i32⟩
  | .hbm, ⟨84, _⟩ => ⟨S272x8x1, .i32⟩
  | .hbm, ⟨85, _⟩ => ⟨S272x8x32000, .i32⟩
  | .hbm, ⟨86, _⟩ => ⟨S272x8x32000, .i1⟩
  | .hbm, ⟨87, _⟩ => ⟨S_, .f32⟩
  | .hbm, ⟨88, _⟩ => ⟨S_, .f32⟩
  | .hbm, ⟨89, _⟩ => ⟨S272x8x32000, .f32⟩
  | .hbm, ⟨90, _⟩ => ⟨S272x8x32000, .f32⟩
  | .hbm, ⟨91, _⟩ => ⟨S_, .f32⟩
  | .hbm, ⟨92, _⟩ => ⟨S272x8, .f32⟩
  | .hbm, ⟨93, _⟩ => ⟨S_, .f32⟩
  | .hbm, ⟨94, _⟩ => ⟨S_, .f32⟩
  | .hbm, ⟨95, _⟩ => ⟨S272x8x32000, .f32⟩
  | .hbm, ⟨96, _⟩ => ⟨S272x8x32000, .f32⟩
  | .hbm, ⟨97, _⟩ => ⟨S_, .f32⟩
  | .hbm, ⟨98, _⟩ => ⟨S272x8, .f32⟩
  | .hbm, ⟨99, _⟩ => ⟨S272x8, .f32⟩
  | .hbm, ⟨100, _⟩ => ⟨S_, .f32⟩
  | .hbm, ⟨101, _⟩ => ⟨S272x8, .f32⟩
  | .hbm, ⟨102, _⟩ => ⟨S272x8, .f32⟩
  | .hbm, ⟨103, _⟩ => ⟨S272x8, .f32⟩
  | .hbm, ⟨104, _⟩ => ⟨S272x8x32000, .f32⟩
  | .hbm, ⟨105, _⟩ => ⟨S_, .f32⟩
  | .hbm, ⟨106, _⟩ => ⟨S272x8x32000, .f32⟩
  | .hbm, ⟨107, _⟩ => ⟨S272x8x32000, .f32⟩
  | .hbm, ⟨108, _⟩ => ⟨S_, .f32⟩
  | .hbm, ⟨109, _⟩ => ⟨S272x8, .f32⟩
  | .hbm, ⟨110, _⟩ => ⟨S272x8x1, .f32⟩
  | .hbm, ⟨111, _⟩ => ⟨S272x8x32000, .f32⟩
  | .hbm, ⟨112, _⟩ => ⟨S272x8x32000, .f32⟩
  | .hbm, ⟨113, _⟩ => ⟨S272x8x32000, .bf16⟩
  | .hbm, ⟨114, _⟩ => ⟨S272x8, .f32⟩
  | .hbm, ⟨115, _⟩ => ⟨S272x1x32000, .f32⟩
  | .hbm, ⟨116, _⟩ => ⟨S272x32000, .f32⟩
  | .hbm, ⟨117, _⟩ => ⟨S272x32000, .bf16⟩
  | .local _ .vmem, ⟨0, _⟩ => ⟨S2176x1536, .fp8e4m3⟩
  | .local _ .vmem, ⟨1, _⟩ => ⟨S1536x32000, .fp8e4m3⟩
  | .local _ .vmem, ⟨2, _⟩ => ⟨S2176x32000, .f32⟩
  | _, _ => ⟨S272x9x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_7 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_call0_v0 : Ref sig .tc := ⟨.hbm, 88, rfl⟩
abbrev main_call0_v1 : Ref sig .tc := ⟨.hbm, 89, rfl⟩
abbrev main_v68 : Ref sig .tc := ⟨.hbm, 90, rfl⟩
abbrev main_cst_9 : Ref sig .tc := ⟨.hbm, 91, rfl⟩
abbrev main_v69 : Ref sig .tc := ⟨.hbm, 92, rfl⟩
abbrev main_cst_10 : Ref sig .tc := ⟨.hbm, 93, rfl⟩
abbrev main_call1_v0 : Ref sig .tc := ⟨.hbm, 94, rfl⟩
abbrev main_call1_v1 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_13 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2176x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x32000 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2176x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Math.lean ====
module

public import Idealize.ShloMosaic.PureOps.Ideal.Laws
public import Idealize.ShloMosaic.Lib.ValueIdx
public import Idealize.ShloMosaic.Lib.Pipeline.Value

@[expose] public section

/-!
Mathematics with no program in it: the signed reading of a nibble, a row of a matrix as a function on the natural
numbers, and small facts on extended reals used by the other modules.
-/

set_option maxRecDepth 16384

noncomputable section

namespace Cert.Verification

open Idealize.ShloMosaic Idealize.ShloMosaic.ValueIdx

/-- The int4 value in a byte: the low nibble for parity 0, the high nibble otherwise, in two's complement. -/
def nib (b : BitVec 8) (p : ℕ) : ℤ :=
  let n : ℕ := if p = 0 then b.toNat % 16 else b.toNat / 16
  if 8 ≤ n then (n : ℤ) - 16 else n

/-- The same as an extended real. -/
def nibE (b : BitVec 8) (p : ℕ) : EReal := ((nib b p : ℝ) : EReal)

private theorem shift_fin : ∀ n : Fin 256,
    ((((BitVec.ofNat 8 n.val).setWidth 32 <<< (28 : ℕ)).sshiftRight 28).toInt = nib (BitVec.ofNat 8 n.val) 0)
    ∧ ((((BitVec.ofNat 8 n.val).setWidth 32 <<< (24 : ℕ)).sshiftRight 28).toInt = nib (BitVec.ofNat 8 n.val) 1) := by
  decide +kernel

/-- Shifting the byte up so that the nibble is at the top of the word, then down with the sign, reads the nibble. -/
theorem shift_nib (b : BitVec 8) :
    (((b.setWidth 32 <<< (28 : ℕ)).sshiftRight 28).toInt = nib b 0)
    ∧ (((b.setWidth 32 <<< (24 : ℕ)).sshiftRight 28).toInt = nib b 1) := by
  have hb : BitVec.ofNat 8 b.toNat = b := by simp
  have h := shift_fin ⟨b.toNat, b.isLt⟩
  dsimp only at h
  rw [hb] at h
  exact h

/-- The shift by `28 - 4 * (r & 1)` of the word of a byte, as the vector operations compute it. -/
theorem shift_ops (b : BitVec 8) (r : ℕ) (hr : r < 128) :
    (IntOp.shrsi .vector (IntOp.shli .vector (b.setWidth 32)
      (IntOp.subi 28#32 (IntOp.muli 4#32 (IntOp.andi (BitVec.ofNat 32 r) 1#32)))) 28#32).toInt = nib b (r % 2) := by
  have hall : ∀ r : Fin 128, IntOp.subi 28#32 (IntOp.muli 4#32 (IntOp.andi (BitVec.ofNat 32 r.val) 1#32))
      = if r.val % 2 = 0 then 28#32 else 24#32 := by decide +kernel
  have h := hall ⟨r, hr⟩
  dsimp only at h
  rw [h]
  rcases Nat.mod_two_eq_zero_or_one r with h2 | h2
  · rw [h2, if_pos rfl]; exact (shift_nib b).1
  · rw [h2, if_neg (by decide)]; exact (shift_nib b).2

/-- Row `r` of a matrix as a function on the natural numbers: bottom past the end. -/
def rowN {n0 n1 : ℕ} (L : (⟨2, ![n0, n1]⟩ : Shape).Idx → EReal) (r : Fin n0) (n : ℕ) : EReal :=
  if h : n < n1 then L (ix2 r ⟨n, h⟩) else ⊥

theorem rowN_of_lt {n0 n1 : ℕ} (L : (⟨2, ![n0, n1]⟩ : Shape).Idx → EReal) (r : Fin n0) (n : ℕ) (h : n < n1) :
    rowN L r n = L (ix2 r ⟨n, h⟩) := dif_pos h

/-- The largest of the first `128 * k` entries of a row that sit in lane `l`. -/
def laneMax {n0 n1 : ℕ} (L : (⟨2, ![n0, n1]⟩ : Shape).Idx → EReal) (r : Fin n0) (k l : ℕ) : EReal :=
  (Finset.range k).sup fun c => rowN L r (128 * c + l)

theorem laneMax_zero {n0 n1 : ℕ} (L : (⟨2, ![n0, n1]⟩ : Shape).Idx → EReal) (r : Fin n0) (l : ℕ) :
    laneMax L r 0 l = ⊥ := by simp [laneMax]

/-- Two more chunks of 128: the maximum with the larger of the two entries. -/
theorem laneMax_add_two {n0 n1 : ℕ} (L : (⟨2, ![n0, n1]⟩ : Shape).Idx → EReal) (r : Fin n0) (k l : ℕ) :
    laneMax L r (k + 2) l
      = max (laneMax L r k l) (max (rowN L r (128 * k + l)) (rowN L r (128 * (k + 1) + l))) := by
  unfold laneMax
  rw [Finset.range_add_one, Finset.sup_insert, Finset.range_add_one, Finset.sup_insert]
  show (max _ (max _ _) : EReal) = _
  generalize (Finset.range k).sup (fun c => rowN L r (128 * c + l)) = M
  rw [max_left_comm, max_comm (rowN L r (128 * (k + 1) + l)), ← max_assoc, max_comm _ M, max_assoc]

/-- The word of minus infinity reads as the bottom element. -/
theorem ofBits_neg_inf : Ideal.ofBits .f32 0xFF800000#32 = ⊥ := by
  simp [Ideal.ofBits, Ideal.ieee]

end Cert.Verification
-- ==== Proof.Pre.lean ====
module

public import proofs.«01_k».proof.Proof.Math
public import proofs.«01_k».proof.Defs

@[expose] public section

/-!
The precondition read back: the scale in the first lane of every row of the codes' scales is nonnegative and finite.
-/

set_option maxRecDepth 16384

noncomputable section

namespace Cert.Proof

open Idealize.ShloMosaic
open Idealize.ShloMosaic.ValueIdx
open Cert.Verification

/-- The side conditions of the precondition's own operations. -/
theorem preFacts : Cert.Pre_scales_are_finite.Facts where
  slices_S2176x128_S2176x1_0_0 := by decide
  shapeCasts_S2176x1_S2176 := by decide
  bcast_S_S2176 := by decide

/-- The word of +∞. -/
theorem ofBits_pos_inf : Ideal.ofBits .f32 0x7F800000#32 = ⊤ := by
  simp [Ideal.ofBits, Ideal.ieee]

/-- Two truth words whose conjunction is one are both one. -/
theorem and_one : ∀ a b : BitVec 1, a &&& b = 1#1 → a = 1#1 ∧ b = 1#1 := by decide

theorem oge_one (x y : EReal) (h : Ideal.cmp .oge x y = 1#1) : y ≤ x := by
  by_contra hn
  simp [Ideal.cmp, hn] at h

theorem olt_one (x y : EReal) (h : Ideal.cmp .olt x y = 1#1) : x < y := by
  by_contra hn
  simp [Ideal.cmp, hn] at h

/-- What the precondition says of one row's scale. -/
theorem scale_of_pre [Cert.Pre_scales_are_finite.Facts]
    (m : (ℓ : Loc Cert.VerifyIdeal.nD Cert.VerifyIdeal.τ Cert.VerifyIdeal.sig) → Buf (Elt Ideal) ℓ)
    (hpre : Cert.Pre_VerifyIdeal_scales_are_finite m) (c : Dev Cert.VerifyIdeal.nD) (R : Fin 2176) (h : EReal)
    (hh : m ((c.tc : Thread Cert.VerifyIdeal.nD Cert.VerifyIdeal.τ).loc Cert.VerifyIdeal.main_arg4) (ix2 R (0 : Fin 128)) = h) :
    0 ≤ h ∧ h ≠ ⊤ := by
  have hR := congrFun (hpre c) (ix1 R)
  have key : ∀ (z : FVec Ideal Cert.Pre_scales_are_finite.S2176x128 .f32) (h1 h2),
      shapeCast Cert.Pre_scales_are_finite.S2176 (extractStridedSlice Cert.Pre_scales_are_finite.S2176x1 ![0, 0] z h1) h2 (ix1 R)
        = z (ix2 R (0 : Fin 128)) := by
    intro z h1 h2
    refine (shapeCast_apply _ _ _ (ix2 R (0 : Fin 1)) ?_).trans ?_
    · rw [Shape.rowMajor_val_one, Shape.rowMajor_val_two]
      show R.val * 1 + 0 = R.val
      omega
    refine extractStridedSlice_apply _ _ _ _ _ ?_
    intro a
    match a with
    | ⟨0, _⟩ => exact (Nat.zero_add _).symm
    | ⟨1, _⟩ => rfl
  obtain ⟨ha, hb⟩ := and_one _ _ hR
  have ha' : (Ideal.ofBits .f32 0x00000000#32 : EReal) ≤ h := by
    refine le_of_le_of_eq (oge_one _ _ ha) ?_
    exact (key _ _ _).trans hh
  have hb' : h < Ideal.ofBits .f32 0x7F800000#32 := by
    refine lt_of_eq_of_lt ?_ (olt_one _ _ hb)
    exact ((key _ _ _).trans hh).symm
  rw [Ideal.ofBits_zero_f32] at ha'
  rw [ofBits_pos_inf] at hb'
  exact ⟨ha', hb'.ne⟩

end Cert.Proof
-- ==== Proof.Run.lean ====
module

public import proofs.«01_k».proof.Proof.Gen.VerifyIdeal.Frame

@[expose] public section

/-!
The whole run of the idealized kernel, and what it leaves in the five result buffers. The generated frame proof runs
the three pallas calls and the host operations between them, and knows the contents of every buffer at the end (`W6`);
here the same run is stated with the five results in its conclusion.
-/

set_option maxRecDepth 16384

noncomputable section

namespace Cert.VerifyIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel runs, and ends with the five results at the last valuation `W6` and its arguments unchanged. -/
theorem run_all : θ_run defs (onTc (τ := τ) (main (F := F))) ⟨m, fun _ => 0, ρ⟩ (fun r => ∀ c : Dev nD,
      r.2.mem ((c.tc : Thread nD τ).loc main_v11) = W6 m ρ c (Proc.devRef .tc main_v11)
      ∧ r.2.mem ((c.tc : Thread nD τ).loc main_v12) = W6 m ρ c (Proc.devRef .tc main_v12)
      ∧ r.2.mem ((c.tc : Thread nD τ).loc main_v13) = W6 m ρ c (Proc.devRef .tc main_v13)
      ∧ r.2.mem ((c.tc : Thread nD τ).loc main_v14) = W6 m ρ c (Proc.devRef .tc main_v14)
      ∧ r.2.mem ((c.tc : Thread nD τ).loc main_v10) = W6 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v11 (by decide)),
       h c _ (mem_uc main_v12 (by decide)),
       h c _ (mem_uc main_v13 (by decide)),
       h c _ (mem_uc main_v14 (by decide)),
       h c _ (mem_uc main_v10 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.VerifyIdeal.Gen

end
-- ==== Proof.Logits.lean ====
module

public import proofs.«01_k».proof.Proof.Math
public import proofs.«01_k».proof.Proof.Gen.VerifyIdeal.Frame
public import Idealize.ShloMosaic.Lib.Pipeline.ValueKit
public import Idealize.ShloMosaic.Lib.MatmulPlain
public import Idealize.ShloMosaic.Lib.Tactic

@[expose] public section

/-!
What the first pallas call of the idealized kernel leaves at one grid point, as functions of the blocks it reads: the
decoded weight block in the scratch buffer, the two blocks of logits, and the running lane maxima.
-/

set_option maxRecDepth 16384

noncomputable section

namespace Cert.VerifyIdeal.Gen

open Idealize.ShloMosaic hiding eq_ix1 eq_ix2 eq_ix3 ix0 ix1 ix2 ix3 ix4 ix5 mulf_apply addf_apply subf_apply divf_apply maximumf_apply minimumf_apply
open Idealize.ShloMosaic.TcCoe Idealize.ShloMosaic.Tactic Idealize.ShloMosaic.ValueIdx
open Idealize.SL
open Idealize.ShloMosaic.Pipeline (Dat Cfg Window)
open Cert.Verification

/-- One group of the weight decoding, at an index: the nibble of the byte times the scale of its column. -/
theorem pay3_apply (v3 : Vec Ideal S64x256 .i8) (v20 : Vec Ideal S1x256 .f32) (r : Fin 128) (q : Fin 256) :
    k0_pay3 v3 v20 (ix2 r q)
      = nibE (v3 (ix2 ⟨r.val / 2, by omega⟩ q)) (r.val % 2) * v20 (ix2 (0 : Fin 1) q) := by
  unfold k0_pay3
  dsimp only
  rw [shapeCast_self, mulf_apply, sitofp_apply]
  congr 1
  · have e8 : shapeCast S128x256 (broadcastTo S64x2x256 (shapeCast S64x1x256 (shapeCast S64x1x256
          (extui 32 v3 natLt_8_32) shapeCasts_S64x256_S64x1x256) shapeCasts_S64x1x256_S64x1x256)
          broadcasts_S64x1x256_S64x2x256) shapeCasts_S64x2x256_S128x256 (ix2 r q)
        = (v3 (ix2 ⟨r.val / 2, by omega⟩ q)).setWidth 32 := by
      refine (shapeCast_apply _ _ _ (ix3 (⟨r.val / 2, by omega⟩ : Fin 64) (⟨r.val % 2, by omega⟩ : Fin 2) q) ?_).trans ?_
      · rw [Shape.rowMajor_val_three, Shape.rowMajor_val_two]
        show (r.val / 2 * 2 + r.val % 2) * 256 + q.val = r.val * 256 + q.val
        omega
      refine (broadcastTo_apply _ _ _ (ix3 (⟨r.val / 2, by omega⟩ : Fin 64) (0 : Fin 1) q) ?_).trans ?_
      · intro a
        match a with
        | ⟨0, _⟩ => rfl
        | ⟨1, _⟩ => rfl
        | ⟨2, _⟩ => rfl
      rw [shapeCast_self]
      refine (shapeCast_apply _ _ _ (ix2 (⟨r.val / 2, by omega⟩ : Fin 64) q) ?_).trans rfl
      rw [Shape.rowMajor_val_three, Shape.rowMajor_val_two]
      show r.val / 2 * 256 + q.val = (r.val / 2 * 1 + 0) * 256 + q.val
      omega
    have ei : iota .tc S128x256 32 [0] iota_S128x256_d0_w32 (ix2 r q) = BitVec.ofNat 32 r.val :=
      iota_single_apply _ _ _ _ _ _
    show ((((IntOp.shrsi .vector (IntOp.shli .vector (shapeCast S128x256 _ _ (ix2 r q))
      (IntOp.subi 28#32 (IntOp.muli 4#32 (IntOp.andi (iota .tc S128x256 32 [0] iota_S128x256_d0_w32 (ix2 r q)) 1#32)))) 28#32).toInt : ℝ)) : EReal) = _
    rw [e8, ei, shift_ops _ _ r.isLt]
    rfl
  · refine (broadcastTo_apply _ _ _ (ix2 (0 : Fin 1) q) ?_).trans rfl
    intro a
    match a with
    | ⟨0, _⟩ => rfl
    | ⟨1, _⟩ => rfl

/-- The decoded weight of row `k` and column `q` of a block: the nibble of byte `k / 2` times the scale of group `k / 128`. -/
def wVal (x2 : Vec Ideal S2048x256 .i8) (x3 : Vec Ideal S32x256 .f32) : Vec Ideal S4096x256 .bf16 := fun y =>
  nibE (x2 (ix2 (⟨(y 0).val / 2, by have := (y 0).isLt; change _ < 4096 at this; omega⟩ : Fin 2048) (y 1))) ((y 0).val % 2)
    * x3 (ix2 (⟨(y 0).val / 128, by have := (y 0).isLt; change _ < 4096 at this; omega⟩ : Fin 32) (y 1))

/-- The store of group `g` writes its rows of `wVal`. -/
theorem tile_val (x2 : Vec Ideal S2048x256 .i8) (x3 : Vec Ideal S32x256 .f32) (o g : ℕ) (ho : o = 64 * g)
    (inb2 : ∀ a, (![o, 0] : Fin 2 → ℕ) a + (![64, 256] : Fin 2 → ℕ) a ≤ S2048x256.size a)
    (inb3 : ∀ a, (![g, 0] : Fin 2 → ℕ) a + (![1, 256] : Fin 2 → ℕ) a ≤ S32x256.size a)
    (x : S128x256.Idx) (y : S4096x256.Idx) (h0 : (y 0).val = 128 * g + (x 0).val) (h1 : (y 1).val = (x 1).val) :
    k0_pay3 (View.ld x2 (Rect.unit (s := S2048x256) ![o, 0] ![64, 256] inb2))
      (View.ld x3 (Rect.unit (s := S32x256) ![g, 0] ![1, 256] inb3)) x = wVal x2 x3 y := by
  have hx0 : (x 0).val < 128 := (x 0).isLt
  have hx1 : (x 1).val < 256 := (x 1).isLt
  obtain ⟨r, q, rfl⟩ : ∃ (r : Fin 128) (q : Fin 256), x = ix2 r q := ⟨x 0, x 1, eq_ix2 x⟩
  change (y 0).val = 128 * g + r.val at h0
  change (y 1).val = q.val at h1
  rw [pay3_apply]
  unfold wVal
  congr 1
  · congr 1
    · refine View.ld_unit_apply_of _ _ _ _ _ _ ?_
      intro a
      match a with
      | ⟨0, _⟩ => show (y 0).val / 2 = o + r.val / 2; omega
      | ⟨1, _⟩ => show (y 1).val = 0 + q.val; omega
    · omega
  · refine View.ld_unit_apply_of _ _ _ _ _ _ ?_
    intro a
    match a with
    | ⟨0, _⟩ => show (y 0).val / 128 = g + 0; omega
    | ⟨1, _⟩ => show (y 1).val = 0 + q.val; omega

variable (V : (c : Dev nD) → (b : Ref sig .tc) → Buf (Elt Ideal) ((c : Thread nD τ).loc b)) (c : Dev nD)

set_option maxHeartbeats 2000000 in
/-- The block of target logits one point leaves. -/
theorem outs6 (t : Fin cfg0.N) :
    (outsAt0 V c t.val t.isLt).1 = k0_pay58 (F := Ideal) (iblk0 V c 0 t) (wVal (iblk0 V c 2 t) (iblk0 V c 3 t)) := by
  by_cases h : t.val % 125 = 0
  on_goal 1 => rw [outsAt0_A V c t h]
  on_goal 2 => rw [outsAt0_B V c t h]
  all_goals
    frame_out
    congr 1
    rw [View.readCov_eq_canon_ld _ _ _ (View.cover_of_tiled_head _ _ _ (by rfl)), View.ld_unit_zero (by funext a; fin_cases a <;> rfl)]
    funext y
    canon_tiles x h
    all_goals exact tile_val _ _ _ _ (by norm_num) _ _ x y (by omega) (by omega)

/-- The block of draft logits one point leaves. -/
theorem outs7 (t : Fin cfg0.N) :
    (outsAt0 V c t.val t.isLt).2.1 = k0_pay60 (F := Ideal) (iblk0 V c 1 t) (iblk0 V c 4 t) (iblk0 V c 5 t) := by
  by_cases h : t.val % 125 = 0
  on_goal 1 => rw [outsAt0_A V c t h]
  on_goal 2 => rw [outsAt0_B V c t h]
  all_goals frame_out

set_option maxHeartbeats 2000000 in
/-- The lane maxima of the target logits after the first point. -/
theorem outs8_A (t : Fin cfg0.N) (h : t.val % 125 = 0) :
    (outsAt0 V c t.val t.isLt).2.2.1 = k0_pay59 (F := Ideal) (outsAt0 V c t.val t.isLt).1 (k0_pay1 (F := Ideal)) := by
  rw [outs6, outsAt0_A V c t h]
  frame_out
  congr 2
  rw [View.readCov_eq_canon_ld _ _ _ (View.cover_of_tiled_head _ _ _ (by rfl)), View.ld_unit_zero (by funext a; fin_cases a <;> rfl)]
  funext y
  canon_tiles x h
  all_goals exact tile_val _ _ _ _ (by norm_num) _ _ x y (by omega) (by omega)

set_option maxHeartbeats 2000000 in
/-- The lane maxima of the target logits after a later point. -/
theorem outs8_B (t : Fin cfg0.N) (h : ¬t.val % 125 = 0) :
    (outsAt0 V c t.val t.isLt).2.2.1
      = k0_pay59 (F := Ideal) (outsAt0 V c t.val t.isLt).1 (outsAt0 V c (t.val - 1) (Nat.lt_of_le_of_lt (Nat.sub_le _ _) t.isLt)).2.2.1 := by
  rw [outs6, outsAt0_B V c t h]
  frame_out
  congr 2
  rw [View.readCov_eq_canon_ld _ _ _ (View.cover_of_tiled_head _ _ _ (by rfl)), View.ld_unit_zero (by funext a; fin_cases a <;> rfl)]
  funext y
  canon_tiles x h
  all_goals exact tile_val _ _ _ _ (by norm_num) _ _ x y (by omega) (by omega)

/-- The lane maxima of the draft logits after the first point. -/
theorem outs9_A (t : Fin cfg0.N) (h : t.val % 125 = 0) :
    (outsAt0 V c t.val t.isLt).2.2.2
      = k0_pay61 (F := Ideal) (iblk0 V c 1 t) (iblk0 V c 4 t) (iblk0 V c 5 t) (k0_pay2 (F := Ideal)) := by
  rw [outsAt0_A V c t h]; frame_out

/-- The lane maxima of the draft logits after a later point. -/
theorem outs9_B (t : Fin cfg0.N) (h : ¬t.val % 125 = 0) :
    (outsAt0 V c t.val t.isLt).2.2.2
      = k0_pay61 (F := Ideal) (iblk0 V c 1 t) (iblk0 V c 4 t) (iblk0 V c 5 t)
          (outsAt0 V c (t.val - 1) (Nat.lt_of_le_of_lt (Nat.sub_le _ _) t.isLt)).2.2.2 := by
  rw [outsAt0_B V c t h]; frame_out

end Cert.VerifyIdeal.Gen
-- ==== Proof.LogitsArray.lean ====
module

public import proofs.«01_k».proof.Proof.Logits

@[expose] public section

/-!
What the first pallas call of the idealized kernel leaves in its four result arrays, for any contents of its inputs: the
target logits, the draft logits and the lane maxima of both.
-/

set_option maxRecDepth 16384

noncomputable section

namespace Cert.VerifyIdeal.Gen

open Idealize.ShloMosaic hiding eq_ix1 eq_ix2 eq_ix3 ix0 ix1 ix2 ix3 ix4 ix5 mulf_apply addf_apply subf_apply divf_apply maximumf_apply minimumf_apply
open Idealize.ShloMosaic.TcCoe Idealize.ShloMosaic.Tactic Idealize.ShloMosaic.ValueIdx
open Idealize.SL
open Idealize.ShloMosaic.Pipeline (Dat Cfg Window)
open Cert.Verification

/-- The target logits from activations, packed weights and weight scales. -/
def LT (X : S2448x4096.Idx → EReal) (P : S2048x32000.Idx → BitVec 8) (S : S32x32000.Idx → EReal) (i : S2448x32000.Idx) : EReal :=
  ∑ k : Fin 4096, X (ix2 (i 0) k)
    * (nibE (P (ix2 (⟨k.val / 2, by omega⟩ : Fin 2048) (i 1))) (k.val % 2) * S (ix2 (⟨k.val / 128, by omega⟩ : Fin 32) (i 1)))

/-- The draft logits, before the scale of the row, from codes, weights and weight scales. -/
def LD (Q : S2176x1536.Idx → EReal) (W : S1536x32000.Idx → EReal) (S : S1x32000.Idx → EReal) (i : S2176x32000.Idx) : EReal :=
  (∑ k : Fin 1536, Q (ix2 (i 0) k) * W (ix2 k (i 1))) * S (ix2 (0 : Fin 1) (i 1))

variable (V : (c : Dev nD) → (b : Ref sig .tc) → Buf (Elt Ideal) ((c : Thread nD τ).loc b)) (c : Dev nD)

/-- The target logits of the arrays as the call finds them. -/
abbrev LTof : S2448x32000.Idx → EReal := LT (V c main_v4) (V c main_arg1) (V c main_arg2)

/-- The draft logits of the arrays as the call finds them. -/
abbrev LDof : S2176x32000.Idx → EReal := LD (V c main_arg3) (V c main_arg5) (V c main_v5)

theorem idx0_0 : ∀ t : Fin grid0.N, win0_0.index t = ![0, 0] := by decide +kernel
theorem idx0_1 : ∀ t : Fin grid0.N, win0_1.index t = ![0, 0] := by decide +kernel
theorem idx0_2 : ∀ t : Fin grid0.N, win0_2.index t = ![0, t.val] := by decide +kernel
theorem idx0_3 : ∀ t : Fin grid0.N, win0_3.index t = ![0, t.val] := by decide +kernel
theorem idx0_4 : ∀ t : Fin grid0.N, win0_4.index t = ![0, t.val] := by decide +kernel
theorem idx0_5 : ∀ t : Fin grid0.N, win0_5.index t = ![0, t.val] := by decide +kernel
theorem idx0_6 : ∀ t : Fin grid0.N, win0_6.index t = ![0, t.val] := by decide +kernel
theorem idx0_7 : ∀ t : Fin grid0.N, win0_7.index t = ![0, t.val] := by decide +kernel

theorem idx0_8 : ∀ t : Fin grid0.N, win0_8.index t = ![0, 0] := by decide +kernel
theorem idx0_9 : ∀ t : Fin grid0.N, win0_9.index t = ![0, 0] := by decide +kernel

theorem lt125 (t : Fin cfg0.N) : t.val < 125 := t.isLt

theorem blk0_0 (t : Fin cfg0.N) (r : Fin 2448) (k : Fin 4096) :
    iblk0 V c 0 t (ix2 r k) = V c main_v4 (ix2 r k) := by
  blk_ext [iblk0, idx0_0 t]

theorem blk0_1 (t : Fin cfg0.N) (r : Fin 2176) (k : Fin 1536) :
    iblk0 V c 1 t (ix2 r k) = V c main_arg3 (ix2 r k) := by
  blk_ext [iblk0, idx0_1 t]

theorem blk0_2 (t : Fin cfg0.N) (k : Fin 2048) (q : Fin 256) (v : Fin 32000) (hv : v.val = t.val * 256 + q.val) :
    iblk0 V c 2 t (ix2 k q) = V c main_arg1 (ix2 k v) := by
  blk_ext [iblk0, idx0_2 t]
  exact hv.symm

theorem blk0_3 (t : Fin cfg0.N) (k : Fin 32) (q : Fin 256) (v : Fin 32000) (hv : v.val = t.val * 256 + q.val) :
    iblk0 V c 3 t (ix2 k q) = V c main_arg2 (ix2 k v) := by
  blk_ext [iblk0, idx0_3 t]
  exact hv.symm

theorem blk0_4 (t : Fin cfg0.N) (k : Fin 1536) (q : Fin 256) (v : Fin 32000) (hv : v.val = t.val * 256 + q.val) :
    iblk0 V c 4 t (ix2 k q) = V c main_arg5 (ix2 k v) := by
  blk_ext [iblk0, idx0_4 t]
  exact hv.symm

theorem blk0_5 (t : Fin cfg0.N) (k : Fin 1) (q : Fin 256) (v : Fin 32000) (hv : v.val = t.val * 256 + q.val) :
    iblk0 V c 5 t (ix2 k q) = V c main_v5 (ix2 k v) := by
  blk_ext [iblk0, idx0_5 t]
  exact hv.symm

/-- A plain product with a zero accumulator. -/
theorem pay58_apply (x : Vec Ideal S2448x4096 .bf16) (w : Vec Ideal S4096x256 .bf16) (r : Fin 2448) (q : Fin 256) :
    k0_pay58 (F := Ideal) x w (ix2 r q) = ∑ k : Fin 4096, x (ix2 r k) * w (ix2 k q) := by
  unfold k0_pay58
  rw [shapeCast_self]
  refine (Ideal.matmul_plain_apply none _ _ _ r q).trans ?_
  show Ideal.ofBits .f32 0#32 + _ = _
  rw [Ideal.ofBits_zero_f32, zero_add]

theorem pay60_apply (x : Vec Ideal S2176x1536 .fp8e4m3) (w : Vec Ideal S1536x256 .fp8e4m3) (s : Vec Ideal S1x256 .f32)
    (r : Fin 2176) (q : Fin 256) :
    k0_pay60 (F := Ideal) x w s (ix2 r q) = (∑ k : Fin 1536, x (ix2 r k) * w (ix2 k q)) * s (ix2 (0 : Fin 1) q) := by
  unfold k0_pay60
  rw [shapeCast_self, mulf_apply]
  refine congrArg₂ (fun a b : EReal => a * b) ?_ ?_
  · refine (Ideal.matmul_plain_apply none _ _ _ r q).trans ?_
    show Ideal.ofBits .f32 0#32 + _ = _
    rw [Ideal.ofBits_zero_f32, zero_add]
  · refine broadcastTo_apply _ _ _ _ ?_
    intro a
    match a with
    | ⟨0, _⟩ => rfl
    | ⟨1, _⟩ => rfl

/-- The block of target logits one point leaves, at an index. -/
theorem outs6_apply (t : Fin cfg0.N) (r : Fin 2448) (q : Fin 256) (v : Fin 32000) (hv : v.val = t.val * 256 + q.val) :
    (outsAt0 V c t.val t.isLt).1 (ix2 r q) = LTof V c (ix2 r v) := by
  rw [outs6, pay58_apply]
  refine Finset.sum_congr rfl fun k _ => ?_
  rw [blk0_0]
  refine congrArg (fun z : EReal => _ * z) ?_
  show nibE (iblk0 V c 2 t (ix2 (⟨k.val / 2, _⟩ : Fin 2048) q)) (k.val % 2) * iblk0 V c 3 t (ix2 (⟨k.val / 128, _⟩ : Fin 32) q) = _
  rw [blk0_2 V c t _ q v hv, blk0_3 V c t _ q v hv]

theorem outs7_apply' (t : Fin cfg0.N) (r : Fin 2176) (q : Fin 256) (v : Fin 32000) (hv : v.val = t.val * 256 + q.val) :
    k0_pay60 (F := Ideal) (iblk0 V c 1 t) (iblk0 V c 4 t) (iblk0 V c 5 t) (ix2 r q) = LDof V c (ix2 r v) := by
  rw [pay60_apply, blk0_5 V c t _ q v hv]
  refine congrArg (fun z : EReal => z * _) ?_
  refine Finset.sum_congr rfl fun k _ => ?_
  rw [blk0_1, blk0_4 V c t _ q v hv]

/-- The block of draft logits one point leaves, at an index. -/
theorem outs7_apply (t : Fin cfg0.N) (r : Fin 2176) (q : Fin 256) (v : Fin 32000) (hv : v.val = t.val * 256 + q.val) :
    (outsAt0 V c t.val t.isLt).2.1 (ix2 r q) = LDof V c (ix2 r v) := by
  rw [outs7, outs7_apply' V c t r q v hv]

/-- The running maximum of one point: the larger of what is there and of the block's two chunks. -/
theorem pay59_apply (b : FVec Ideal S2448x256 .f32) (M : Vec Ideal S2448x128 .f32) (r : Fin 2448) (l : Fin 128) :
    k0_pay59 (F := Ideal) b M (ix2 r l)
      = max (M (ix2 r l) : EReal) (max (b (ix2 r (⟨l.val, by omega⟩ : Fin 256)) : EReal) (b (ix2 r (⟨128 + l.val, by omega⟩ : Fin 256)))) := by
  unfold k0_pay59
  rw [shapeCast_self, maximumf_apply, maximumf_apply]
  refine congrArg₂ (fun x y : EReal => max (M (ix2 r l) : EReal) (max x y)) ?_ ?_ <;>
  · refine extractStridedSlice_apply _ _ _ _ _ ?_
    intro a
    match a with
    | ⟨0, _⟩ => exact (Nat.zero_add _).symm
    | ⟨1, _⟩ => first | exact (Nat.zero_add _).symm | rfl

theorem pay61_apply (x : Vec Ideal S2176x1536 .fp8e4m3) (w : Vec Ideal S1536x256 .fp8e4m3) (s : Vec Ideal S1x256 .f32)
    (M : Vec Ideal S2176x128 .f32) (r : Fin 2176) (l : Fin 128) :
    k0_pay61 (F := Ideal) x w s M (ix2 r l)
      = max (M (ix2 r l) : EReal) (max (k0_pay60 (F := Ideal) x w s (ix2 r (⟨l.val, by omega⟩ : Fin 256)) : EReal)
          (k0_pay60 (F := Ideal) x w s (ix2 r (⟨128 + l.val, by omega⟩ : Fin 256)))) := by
  unfold k0_pay61
  rw [shapeCast_self, maximumf_apply, maximumf_apply]
  refine congrArg₂ (fun x y : EReal => max (M (ix2 r l) : EReal) (max x y)) ?_ ?_ <;>
  · refine extractStridedSlice_apply _ _ _ _ _ ?_
    intro a
    match a with
    | ⟨0, _⟩ => exact (Nat.zero_add _).symm
    | ⟨1, _⟩ => first | exact (Nat.zero_add _).symm | rfl

/-- A step of the lane maximum: block `n` holds the columns from `256 * n` on. -/
theorem laneMax_step {n0 : ℕ} (L : (⟨2, ![n0, 32000]⟩ : Shape).Idx → EReal) (r : Fin n0) (n : ℕ) (hn : n < 125) (l : Fin 128) :
    max (laneMax L r (2 * n) l.val) (max (L (ix2 r (⟨n * 256 + l.val, by omega⟩ : Fin 32000))) (L (ix2 r (⟨n * 256 + (128 + l.val), by omega⟩ : Fin 32000))))
      = laneMax L r (2 * (n + 1)) l.val := by
  rw [show 2 * (n + 1) = 2 * n + 2 from rfl, laneMax_add_two, rowN_of_lt L r (128 * (2 * n) + l.val) (by omega),
    rowN_of_lt L r (128 * (2 * n + 1) + l.val) (by omega)]
  congr 2
  · exact congrArg (fun v : Fin 32000 => L (ix2 r v)) (Fin.ext (by show n * 256 + l.val = 128 * (2 * n) + l.val; omega))
  · exact congrArg (fun v : Fin 32000 => L (ix2 r v)) (Fin.ext (by show n * 256 + (128 + l.val) = 128 * (2 * n + 1) + l.val; omega))

/-- After point `n` the third result's buffer holds the lane maxima of the first `n + 1` blocks. -/
theorem outs8_apply (r : Fin 2448) (l : Fin 128) : ∀ (n : ℕ) (hn : n < 125),
    (outsAt0 V c n hn).2.2.1 (ix2 r l) = laneMax (LTof V c) r (2 * (n + 1)) l.val
  | 0, hn => by
    rw [outs8_A V c ⟨0, hn⟩ rfl, pay59_apply, outs6_apply V c ⟨0, hn⟩ r _ (⟨0 * 256 + l.val, by omega⟩ : Fin 32000) rfl,
      outs6_apply V c ⟨0, hn⟩ r _ (⟨0 * 256 + (128 + l.val), by omega⟩ : Fin 32000) rfl, ← laneMax_step _ r 0 hn l]
    refine congrArg (fun z : EReal => max z _) ?_
    show Ideal.ofBits .f32 0xFF800000#32 = _
    rw [ofBits_neg_inf, Nat.mul_zero, laneMax_zero]
  | n + 1, hn => by
    rw [outs8_B V c ⟨n + 1, hn⟩ (by show ¬(n + 1) % 125 = 0; omega), pay59_apply,
      outs6_apply V c ⟨n + 1, hn⟩ r _ (⟨(n + 1) * 256 + l.val, by omega⟩ : Fin 32000) rfl,
      outs6_apply V c ⟨n + 1, hn⟩ r _ (⟨(n + 1) * 256 + (128 + l.val), by omega⟩ : Fin 32000) rfl, ← laneMax_step _ r (n + 1) hn l]
    refine congrArg (fun z : EReal => max z _) ?_
    exact outs8_apply r l n (by omega)

/-- The same for the fourth result and the draft logits. -/
theorem outs9_apply (r : Fin 2176) (l : Fin 128) : ∀ (n : ℕ) (hn : n < 125),
    (outsAt0 V c n hn).2.2.2 (ix2 r l) = laneMax (LDof V c) r (2 * (n + 1)) l.val
  | 0, hn => by
    rw [outs9_A V c ⟨0, hn⟩ rfl, pay61_apply, outs7_apply' V c ⟨0, hn⟩ r _ (⟨0 * 256 + l.val, by omega⟩ : Fin 32000) rfl,
      outs7_apply' V c ⟨0, hn⟩ r _ (⟨0 * 256 + (128 + l.val), by omega⟩ : Fin 32000) rfl, ← laneMax_step _ r 0 hn l]
    refine congrArg (fun z : EReal => max z _) ?_
    show Ideal.ofBits .f32 0xFF800000#32 = _
    rw [ofBits_neg_inf, Nat.mul_zero, laneMax_zero]
  | n + 1, hn => by
    rw [outs9_B V c ⟨n + 1, hn⟩ (by show ¬(n + 1) % 125 = 0; omega), pay61_apply,
      outs7_apply' V c ⟨n + 1, hn⟩ r _ (⟨(n + 1) * 256 + l.val, by omega⟩ : Fin 32000) rfl,
      outs7_apply' V c ⟨n + 1, hn⟩ r _ (⟨(n + 1) * 256 + (128 + l.val), by omega⟩ : Fin 32000) rfl, ← laneMax_step _ r (n + 1) hn l]
    refine congrArg (fun z : EReal => max z _) ?_
    exact outs9_apply r l n (by omega)

/-- The first result: the target logits. -/
theorem arr0_6 : (dat0 V c).arrAt 6 cfg0.N = LTof V c := by
  refine (dat0 V c).arrAt_eq_of_covers 6 (LTof V c) (by decide +kernel) fun t hf y => ?_
  blk_simp
  rw [after0_6]
  idx_bounds y
  refine Eq.trans ?_ ((outs6_apply V c t (y 0) (y 1) (⟨t.val * 256 + (y 1).val, by have := lt125 t; omega⟩ : Fin 32000) rfl).trans ?_)
  · exact congrArg _ (eq_ix2 _)
  · refine congrArg (LTof V c) ?_
    blk_ext [idx0_6 t]

/-- The second result: the draft logits. -/
theorem arr0_7 : (dat0 V c).arrAt 7 cfg0.N = LDof V c := by
  refine (dat0 V c).arrAt_eq_of_covers 7 (LDof V c) (by decide +kernel) fun t hf y => ?_
  blk_simp
  rw [after0_7]
  idx_bounds y
  refine Eq.trans ?_ ((outs7_apply V c t (y 0) (y 1) (⟨t.val * 256 + (y 1).val, by have := lt125 t; omega⟩ : Fin 32000) rfl).trans ?_)
  · exact congrArg _ (eq_ix2 _)
  · refine congrArg (LDof V c) ?_
    blk_ext [idx0_7 t]

/-- The third result: the lane maxima of the target logits. -/
theorem arr0_8 : (dat0 V c).arrAt 8 cfg0.N = fun i : (⟨2, ![2448, 128]⟩ : Shape).Idx => laneMax (LTof V c) (i 0) 250 (i 1).val := by
  refine (dat0 V c).arrAt_eq_of_covers 8 _ (by decide +kernel) fun t hf y => ?_
  have ht : t.val = 124 := by have := (flush0_8 t).mp hf; have := lt125 t; omega
  blk_simp
  rw [after0_8]
  idx_bounds y
  refine Eq.trans ?_ ((outs8_apply V c (y 0) (y 1) t.val (lt125 t)).trans ?_)
  · exact congrArg _ (eq_ix2 _)
  · have e0 : (win0_8.blk t).view.emb y 0 = y 0 := Fin.ext (by blk_simp [idx0_8 t])
    have e1 : win0_8.index t 1 = 0 := by rw [idx0_8 t]; rfl
    rw [ht, e0, e1, Nat.zero_mul, Nat.zero_add]

/-- The fourth result: the lane maxima of the draft logits. -/
theorem arr0_9 : (dat0 V c).arrAt 9 cfg0.N = fun i : (⟨2, ![2176, 128]⟩ : Shape).Idx => laneMax (LDof V c) (i 0) 250 (i 1).val := by
  refine (dat0 V c).arrAt_eq_of_covers 9 _ (by decide +kernel) fun t hf y => ?_
  have ht : t.val = 124 := by have := (flush0_9 t).mp hf; have := lt125 t; omega
  blk_simp
  rw [after0_9]
  idx_bounds y
  refine Eq.trans ?_ ((outs9_apply V c (y 0) (y 1) t.val (lt125 t)).trans ?_)
  · exact congrArg _ (eq_ix2 _)
  · have e0 : (win0_9.blk t).view.emb y 0 = y 0 := Fin.ext (by blk_simp [idx0_9 t])
    have e1 : win0_9.index t 1 = 0 := by rw [idx0_9 t]; rfl
    rw [ht, e0, e1, Nat.zero_mul, Nat.zero_add]

end Cert.VerifyIdeal.Gen
-- ==== Proof.Spec.lean ====
module

public import proofs.«01_k».proof.Proof.Math

@[expose] public section

/-!
The mathematics both programs compute, on one row of 32000 entries: the normalised exponentials, the probability of the
drafted token, the acceptance ratio, the positive part of the difference and its mass.
-/

set_option maxRecDepth 16384

noncomputable section

namespace Cert.Verification

open Idealize.ShloMosaic Idealize.ShloMosaic.ValueIdx

/-- A row divided by its sum. -/
def nrm (e : Fin 32000 → EReal) (v : Fin 32000) : EReal := Ideal.div (e v) (∑ u, e u)

/-- The exponentials of a row, its largest entry taken off. -/
def expRow (L : Fin 32000 → EReal) (v : Fin 32000) : EReal := Ideal.exp (L v - Finset.univ.sup L)

/-- The softmax of a row. -/
def smx (L : Fin 32000 → EReal) : Fin 32000 → EReal := nrm (expRow L)

/-- A row's entry at a token, as the sum over the entries that sit at the token. -/
def hitSum (tok : BitVec 32) (p : Fin 32000 → EReal) : EReal :=
  ∑ v : Fin 32000, Scalar.select (IntOp.cmpi .eq (BitVec.ofNat 32 v.val) tok) (p v) 0

/-- The acceptance ratio of a token. -/
def ratio (tok : BitVec 32) (pt pd : Fin 32000 → EReal) : EReal :=
  min (Ideal.ofBits .f32 0x3F800000#32) (Ideal.div (hitSum tok pt) (hitSum tok pd))

/-- The positive part of the difference of two rows. -/
def excess (pt pd : Fin 32000 → EReal) (v : Fin 32000) : EReal := max (pt v - pd v) 0

/-- Its mass. -/
def mass (pt pd : Fin 32000 → EReal) : EReal := ∑ v, excess pt pd v

/-- The residual distribution. -/
def resid (pt pd : Fin 32000 → EReal) : Fin 32000 → EReal := nrm (excess pt pd)

/-- A nonnegative finite factor goes through the largest entry of a row. -/
theorem sup_mul (D : Fin 32000 → EReal) (h : EReal) (h0 : 0 ≤ h) :
    Finset.univ.sup D * h = Finset.univ.sup fun v => D v * h := by
  refine le_antisymm ?_ (Finset.sup_le fun v _ => ?_)
  · obtain ⟨v, _, hv⟩ := Finset.exists_mem_eq_sup (Finset.univ : Finset (Fin 32000)) ⟨⟨0, by omega⟩, Finset.mem_univ _⟩ D
    rw [hv]
    exact Finset.le_sup (f := fun v => D v * h) (Finset.mem_univ v)
  · exact mul_le_mul_of_nonneg_right (Finset.le_sup (Finset.mem_univ v)) h0

/-- Scaling after the largest entry is taken off, or before: the same, for a nonnegative finite scale. -/
theorem expRow_scale (D : Fin 32000 → EReal) (h : EReal) (h0 : 0 ≤ h) (h1 : h ≠ ⊤) (v : Fin 32000) :
    Ideal.exp ((D v - Finset.univ.sup D) * h) = expRow (fun u => D u * h) v := by
  unfold expRow
  rw [← sup_mul D h h0, sub_eq_add_neg, EReal.right_distrib_of_nonneg_of_ne_top h0 h1, EReal.neg_mul, ← sub_eq_add_neg]

/-- The largest of the lane maxima is the largest entry of the row. -/
theorem sup_laneMax {n0 : ℕ} (L : (⟨2, ![n0, 32000]⟩ : Shape).Idx → EReal) (r : Fin n0) :
    (Finset.univ.sup fun l : Fin 128 => laneMax L r 250 l.val) = Finset.univ.sup fun v : Fin 32000 => L (ix2 r v) := by
  refine le_antisymm (Finset.sup_le fun l _ => Finset.sup_le fun c hc => ?_) (Finset.sup_le fun v _ => ?_)
  · have hc := Finset.mem_range.mp hc
    rw [rowN_of_lt L r _ (by omega)]
    exact Finset.le_sup (f := fun v : Fin 32000 => L (ix2 r v)) (Finset.mem_univ _)
  · refine le_trans ?_ (Finset.le_sup (f := fun l : Fin 128 => laneMax L r 250 l.val)
      (Finset.mem_univ (⟨v.val % 128, by omega⟩ : Fin 128)))
    refine le_trans ?_ (Finset.le_sup (f := fun c => rowN L r (128 * c + v.val % 128))
      (Finset.mem_range.mpr (show v.val / 128 < 250 by omega)))
    rw [rowN_of_lt L r _ (by omega)]
    exact le_of_eq (congrArg (fun u : Fin 32000 => L (ix2 r u)) (Fin.ext (by dsimp only; omega)))

private theorem decode_fin : ∀ n : Fin 256,
    ((IntOp.subi (IntOp.andi ((BitVec.ofNat 8 n.val).setWidth 32) 15#32)
      (IntOp.muli 16#32 ((IntOp.cmpi .sge (IntOp.andi ((BitVec.ofNat 8 n.val).setWidth 32) 15#32) 8#32).setWidth 32))).toInt = nib (BitVec.ofNat 8 n.val) 0)
    ∧ ((IntOp.subi (IntOp.shrsi .host ((BitVec.ofNat 8 n.val).setWidth 32) 4#32)
      (IntOp.muli 16#32 ((IntOp.cmpi .sge (IntOp.shrsi .host ((BitVec.ofNat 8 n.val).setWidth 32) 4#32) 8#32).setWidth 32))).toInt = nib (BitVec.ofNat 8 n.val) 1) := by
  decide +kernel

/-- Taking sixteen off a nibble of at least eight reads the nibble with its sign. -/
theorem decode_ops (b : BitVec 8) :
    ((IntOp.subi (IntOp.andi (b.setWidth 32) 15#32)
      (IntOp.muli 16#32 ((IntOp.cmpi .sge (IntOp.andi (b.setWidth 32) 15#32) 8#32).setWidth 32))).toInt = nib b 0)
    ∧ ((IntOp.subi (IntOp.shrsi .host (b.setWidth 32) 4#32)
      (IntOp.muli 16#32 ((IntOp.cmpi .sge (IntOp.shrsi .host (b.setWidth 32) 4#32) 8#32).setWidth 32))).toInt = nib b 1) := by
  have hb : BitVec.ofNat 8 b.toNat = b := by simp
  have h := decode_fin ⟨b.toNat, b.isLt⟩
  dsimp only at h
  rw [hb] at h
  exact h

/-- A sum over 4096 entries as the sum over 32 groups of 64 pairs, the pair's two entries apart. -/
theorem sum_pairs (f : Fin 4096 → EReal) :
    ∑ k, f k = (∑ g : Fin 32, ∑ k : Fin 64, f ⟨g.val * 128 + 2 * k.val, by omega⟩)
      + ∑ g : Fin 32, ∑ k : Fin 64, f ⟨g.val * 128 + (2 * k.val + 1), by omega⟩ := by
  have h1 : ∑ k, f k = ∑ g : Fin 32, ∑ j : Fin 128, f ⟨g.val * 128 + j.val, by omega⟩ := by
    rw [← Equiv.sum_comp (finProdFinEquiv (m := 32) (n := 128)) f, Fintype.sum_prod_type]
    refine Finset.sum_congr rfl fun g _ => Finset.sum_congr rfl fun j _ => congrArg f (Fin.ext ?_)
    show j.val + 128 * g.val = g.val * 128 + j.val
    omega
  rw [h1, ← Finset.sum_add_distrib]
  refine Finset.sum_congr rfl fun g _ => ?_
  rw [← Finset.sum_add_distrib,
    ← Equiv.sum_comp (finProdFinEquiv (m := 64) (n := 2)) (fun j : Fin 128 => f ⟨g.val * 128 + j.val, by omega⟩), Fintype.sum_prod_type]
  refine Finset.sum_congr rfl fun k _ => ?_
  rw [Fin.sum_univ_two]
  refine congrArg₂ (fun a b : EReal => a + b) (congrArg f (Fin.ext ?_)) (congrArg f (Fin.ext ?_))
  · show g.val * 128 + (0 + 2 * k.val) = g.val * 128 + 2 * k.val
    omega
  · show g.val * 128 + (1 + 2 * k.val) = g.val * 128 + (2 * k.val + 1)
    omega

end Cert.Verification
-- ==== Proof.RowSum.lean ====
module

public import proofs.«01_k».proof.Proof.Math
public import proofs.«01_k».proof.Proof.Gen.VerifyIdeal.Skeleton
public import Idealize.ShloMosaic.Lib.KernelVsHost
public import Idealize.ShloMosaic.Lib.Pipeline.ValueKit

@[expose] public section

/-!
The kernel's sum of a row of 32000 entries. The kernel adds chunks of 128 lanes into parts, lays up to sixteen parts of
eight rows under each other, transposes, adds the sixteen groups of eight sublanes, adds the eight sublanes by three
rotations, moves each part's eight columns to the front by a lane rotation, and reads the diagonal. Here each stage is a
definition at any float instance, and at the extended reals the whole is the plain sum of the row.
-/

set_option maxRecDepth 16384

noncomputable section

namespace Cert.VerifyIdeal.Gen

open Idealize.ShloMosaic hiding eq_ix1 eq_ix2 eq_ix3 ix0 ix1 ix2 ix3 ix4 ix5 mulf_apply addf_apply subf_apply divf_apply maximumf_apply minimumf_apply
open Idealize.ShloMosaic.TcCoe Idealize.ShloMosaic.Tactic Idealize.ShloMosaic.ValueIdx
open Cert.Verification

section Defs
variable {F : FTy → Type} [FloatOps F]

/-- The zero block. -/
def zero8 : FVec F S8x128 .f32 := broadcast S8x128 (Scalar.ofBits .f32 0x00000000#32)

theorem slices_at (o : ℕ) (h : o + 128 ≤ 32000) : S8x32000.Slices ![0, o] S8x128 :=
  ⟨rfl, fun a => match a with
    | ⟨0, _⟩ => le_refl 8
    | ⟨1, _⟩ => h⟩

/-- The chunk of 128 lanes at offset `o`. -/
def slc (e : FVec F S8x32000 .f32) (o : ℕ) : FVec F S8x128 .f32 :=
  if h : o + 128 ≤ 32000 then extractStridedSlice S8x128 ![0, o] e (slices_at o h) else zero8

/-- `k + 1` chunks from offset `o` on, added up. -/
def chain (e : FVec F S8x32000 .f32) (o : ℕ) : ℕ → FVec F S8x128 .f32
  | 0 => slc e o
  | k + 1 => addf (chain e o k) (slc e (o + 128 * (k + 1)))

/-- The parts of a row cut into windows of ten chunks. -/
def partT (e : FVec F S8x32000 .f32) (n : ℕ) : FVec F S8x128 .f32 := if n < 25 then chain e (1280 * n) 9 else zero8

/-- The parts of a row cut into windows of fifteen chunks; the last window has ten. -/
def partD (e : FVec F S8x32000 .f32) (n : ℕ) : FVec F S8x128 .f32 :=
  if n < 16 then chain e (1920 * n) 14 else if n < 17 then chain e (1920 * n) 9 else zero8

/-- Sixteen parts under each other, transposed. -/
def lanesOf (p : Fin 16 → FVec F S8x128 .f32) : FVec F S128x128 .f32 :=
  transpose S128x128 [1, 0]
    (concatenate S128x128 0 (List.ofFn fun n : Fin 16 => (⟨S8x128, p n⟩ : (s : Shape) × (s.Idx → F .f32)))
      (by exact (by decide : Shape.Concatenates [S8x128, S8x128, S8x128, S8x128, S8x128, S8x128, S8x128, S8x128, S8x128,
        S8x128, S8x128, S8x128, S8x128, S8x128, S8x128, S8x128] S128x128 0)))
    (by decide)

theorem slices_sub (k : ℕ) (h : 8 * k + 8 ≤ 128) : S128x128.Slices ![8 * k, 0] S8x128 :=
  ⟨rfl, fun a => match a with
    | ⟨0, _⟩ => h
    | ⟨1, _⟩ => le_refl 128⟩

/-- Eight sublanes from group `k` on. -/
def sub8 (X : FVec F S128x128 .f32) (k : ℕ) : FVec F S8x128 .f32 :=
  if h : 8 * k + 8 ≤ 128 then extractStridedSlice S8x128 ![8 * k, 0] X (slices_sub k h) else zero8

/-- The first `k + 1` groups of eight sublanes, added up. -/
def subs (X : FVec F S128x128 .f32) : ℕ → FVec F S8x128 .f32
  | 0 => sub8 X 0
  | k + 1 => addf (subs X k) (sub8 X (k + 1))

/-- A block plus its rotation by `n` sublanes. -/
def rotAdd (n : BitVec 32) (y : FVec F S8x128 .f32) : FVec F S8x128 .f32 :=
  addf y (dynamicRotate 0 n none y (by decide))

/-- The column sums of the transposed parts, in every sublane. -/
def colSum (X : FVec F S128x128 .f32) : FVec F S8x128 .f32 := rotAdd 1#32 (rotAdd 2#32 (rotAdd 4#32 (subs X 15)))

/-- The first `n + 1` groups of eight columns, each moved to the front, added up. -/
def front (y : FVec F S8x128 .f32) : ℕ → FVec F S8x128 .f32
  | 0 => y
  | n + 1 => addf (front y n) (dynamicRotate 1 (BitVec.ofNat 32 (128 - 8 * (n + 1))) none y (by decide))

/-- The same added onto what is there. -/
def frontOn (acc y : FVec F S8x128 .f32) : ℕ → FVec F S8x128 .f32
  | 0 => addf acc y
  | n + 1 => addf (frontOn acc y n) (dynamicRotate 1 (BitVec.ofNat 32 (128 - 8 * (n + 1))) none y (by decide))

/-- The diagonal of the first eight lanes, as a column. -/
def diag (t : FVec F S8x128 .f32) : FVec F S8x1 .f32 :=
  shapeCast S8x1 (multiReduction .add [1] S8
    (select (cmpi .eq (iota .tc S8x128 32 [0] (by decide)) (iota .tc S8x128 32 [1] (by decide))) t zero8)
    0x00000000#32 (by decide) (.inl rfl) rfl) (by decide)

/-- The row sums over windows of ten chunks. -/
def sumT (e : FVec F S8x32000 .f32) : FVec F S8x1 .f32 :=
  diag (frontOn (front (colSum (lanesOf fun n => partT e n.val)) 15) (colSum (lanesOf fun n => partT e (16 + n.val))) 8)

/-- The row sums over windows of fifteen chunks. -/
def sumD (e : FVec F S8x32000 .f32) : FVec F S8x1 .f32 :=
  diag (frontOn (front (colSum (lanesOf fun n => partD e n.val)) 15) (colSum (lanesOf fun n => partD e (16 + n.val))) 0)

end Defs

section Values

/-- A row as a function on the natural numbers, zero past the end. -/
def rowZ (e : FVec Ideal S8x32000 .f32) (r : Fin 8) (n : ℕ) : EReal := if h : n < 32000 then e (ix2 r ⟨n, h⟩) else 0

theorem zero8_apply (j : S8x128.Idx) : zero8 (F := Ideal) j = 0 := Ideal.ofBits_zero_f32

theorem slc_apply (e : FVec Ideal S8x32000 .f32) (o : ℕ) (h : o + 128 ≤ 32000) (r : Fin 8) (a : Fin 128) :
    slc e o (ix2 r a) = rowZ e r (o + a.val) := by
  have ha := a.isLt
  unfold slc rowZ
  rw [dif_pos h, dif_pos (show o + a.val < 32000 by omega)]
  refine extractStridedSlice_apply _ _ _ _ _ ?_
  intro b
  match b with
  | ⟨0, _⟩ => exact (Nat.zero_add _).symm
  | ⟨1, _⟩ => rfl

theorem chain_apply (e : FVec Ideal S8x32000 .f32) (o : ℕ) (r : Fin 8) (a : Fin 128) :
    ∀ k, o + 128 * (k + 1) ≤ 32000 →
      chain e o k (ix2 r a) = ∑ c ∈ Finset.range (k + 1), rowZ e r (o + (128 * c + a.val))
  | 0, h => by
    rw [Finset.sum_range_one]
    show slc e o (ix2 r a) = _
    rw [slc_apply e o (by omega)]; simp
  | k + 1, h => by
    rw [Finset.sum_range_succ, ← chain_apply e o r a k (by omega)]
    show chain e o k (ix2 r a) + slc e (o + 128 * (k + 1)) (ix2 r a) = _
    rw [slc_apply e _ (by omega), Nat.add_assoc]

/-- Summing chunk by chunk is summing straight through. -/
theorem sum_chunks (f : ℕ → EReal) (m : ℕ) : ∀ k, ∑ c ∈ Finset.range k, ∑ a ∈ Finset.range m, f (m * c + a)
    = ∑ n ∈ Finset.range (m * k), f n
  | 0 => by simp
  | k + 1 => by
    rw [Finset.sum_range_succ, sum_chunks f m k, Nat.mul_succ, Finset.sum_range_add]

/-- The lanes of a part, added up: the entries of its window. -/
theorem chain_sum (e : FVec Ideal S8x32000 .f32) (o : ℕ) (r : Fin 8) (k : ℕ) (h : o + 128 * (k + 1) ≤ 32000) :
    ∑ a : Fin 128, chain e o k (ix2 r a) = ∑ n ∈ Finset.range (128 * (k + 1)), rowZ e r (o + n) := by
  rw [← sum_chunks (fun n => rowZ e r (o + n)) 128 (k + 1), Finset.sum_comm, Finset.sum_range]
  exact Finset.sum_congr rfl fun a _ => chain_apply e o r a k h

theorem lanesOf_apply (p : Fin 16 → FVec Ideal S8x128 .f32) (a l : Fin 128) :
    lanesOf p (ix2 a l) = p ⟨l.val / 8, by omega⟩ (ix2 (⟨l.val % 8, by omega⟩ : Fin 8) a) := by
  unfold lanesOf
  refine (transpose_apply _ _ _ _ (ix2 l a) ?_).trans ?_
  · intro b
    match b with
    | ⟨0, _⟩ => rfl
    | ⟨1, _⟩ => rfl
  refine concatenate_ofFn_apply (t := S128x128) (s₁ := S8x128) (0 : Fin 2) p _ rfl 8 rfl (ix2 l a)
    ⟨l.val / 8, by omega⟩ rfl (ix2 (⟨l.val % 8, by omega⟩ : Fin 8) a) rfl ?_
  intro b hb
  match b with
  | ⟨0, _⟩ => exact absurd rfl hb
  | ⟨1, _⟩ => rfl

theorem sub8_apply (X : FVec Ideal S128x128 .f32) (k : ℕ) (h : 8 * k + 8 ≤ 128) (s : Fin 8) (l : Fin 128) :
    sub8 X k (ix2 s l) = X (ix2 (⟨8 * k + s.val, by omega⟩ : Fin 128) l) := by
  unfold sub8
  rw [dif_pos h]
  refine extractStridedSlice_apply _ _ _ _ _ ?_
  intro b
  match b with
  | ⟨0, _⟩ => rfl
  | ⟨1, _⟩ => exact (Nat.zero_add _).symm

/-- Column `l` of the transposed parts on the natural numbers. -/
def colN (X : FVec Ideal S128x128 .f32) (l : Fin 128) (n : ℕ) : EReal := if h : n < 128 then X (ix2 ⟨n, h⟩ l) else 0

theorem subs_apply (X : FVec Ideal S128x128 .f32) (s : Fin 8) (l : Fin 128) :
    ∀ k, 8 * k + 8 ≤ 128 → subs X k (ix2 s l) = ∑ g ∈ Finset.range (k + 1), colN X l (8 * g + s.val)
  | 0, h => by
    rw [Finset.sum_range_one]
    show sub8 X 0 (ix2 s l) = _
    rw [sub8_apply X 0 h, colN, dif_pos]
  | k + 1, h => by
    rw [Finset.sum_range_succ, ← subs_apply X s l k (by omega)]
    show subs X k (ix2 s l) + sub8 X (k + 1) (ix2 s l) = _
    rw [sub8_apply X _ h, colN, dif_pos]

theorem rot0_apply (n : ℕ) (hn : n ≤ 8) (y : FVec Ideal S8x128 .f32) (h) (s : Fin 8) (l : Fin 128) :
    dynamicRotate 0 (BitVec.ofNat 32 n) none y h (ix2 s l) = y (ix2 (⟨(s.val + 8 - n % 8) % 8, by omega⟩ : Fin 8) l) := by
  refine dynamicRotate_apply _ _ _ _ _ _ ?_
  intro b
  have e : (BitVec.ofNat 32 n).toNat = n := by rw [BitVec.toNat_ofNat]; exact Nat.mod_eq_of_lt (by omega)
  match b with
  | ⟨0, _⟩ => rw [e]; rfl
  | ⟨1, _⟩ => rfl

theorem rot1_apply (n : ℕ) (hn : n ≤ 128) (y : FVec Ideal S8x128 .f32) (h) (s : Fin 8) (l : Fin 128) :
    dynamicRotate 1 (BitVec.ofNat 32 n) none y h (ix2 s l) = y (ix2 s (⟨(l.val + 128 - n % 128) % 128, by omega⟩ : Fin 128)) := by
  refine dynamicRotate_apply _ _ _ _ _ _ ?_
  intro b
  have e : (BitVec.ofNat 32 n).toNat = n := by rw [BitVec.toNat_ofNat]; exact Nat.mod_eq_of_lt (by omega)
  match b with
  | ⟨0, _⟩ => rfl
  | ⟨1, _⟩ => rw [e]; rfl

/-- An entry of a block. -/
def at8 (y : FVec Ideal S8x128 .f32) (s : Fin 8) (l : Fin 128) : EReal := y (ix2 s l)

theorem rotAdd_apply (n : ℕ) (hn : n ≤ 8) (y : FVec Ideal S8x128 .f32) (s : Fin 8) (l : Fin 128) :
    at8 (rotAdd (BitVec.ofNat 32 n) y) s l
      = at8 y s l + at8 y (⟨(s.val + 8 - n % 8) % 8, by omega⟩ : Fin 8) l := by
  show y (ix2 s l) + dynamicRotate 0 (BitVec.ofNat 32 n) none y _ (ix2 s l) = y (ix2 s l) + y (ix2 _ l)
  rw [rot0_apply n hn]

/-- Three rotations by 4, 2 and 1 add the eight sublanes. -/
theorem rot_sum (y : FVec Ideal S8x128 .f32) (s : Fin 8) (l : Fin 128) :
    rotAdd 1#32 (rotAdd 2#32 (rotAdd 4#32 y)) (ix2 s l) = ∑ k : Fin 8, y (ix2 k l) := by
  show at8 (rotAdd 1#32 (rotAdd 2#32 (rotAdd 4#32 y))) s l = ∑ k : Fin 8, at8 y k l
  rw [rotAdd_apply 1 (by omega), rotAdd_apply 2 (by omega), rotAdd_apply 2 (by omega), rotAdd_apply 4 (by omega),
    rotAdd_apply 4 (by omega), rotAdd_apply 4 (by omega), rotAdd_apply 4 (by omega), Fin.sum_univ_eight]
  fin_cases s <;> simp <;> abel

/-- Every sublane of `colSum` holds the column sums. -/
theorem colSum_apply (X : FVec Ideal S128x128 .f32) (s : Fin 8) (l : Fin 128) :
    colSum X (ix2 s l) = ∑ a : Fin 128, X (ix2 a l) := by
  have e : ∑ a : Fin 128, X (ix2 a l) = ∑ n ∈ Finset.range (8 * 16), colN X l n := by
    rw [Finset.sum_range]
    exact Finset.sum_congr rfl fun a _ => by rw [colN, dif_pos]
  unfold colSum
  rw [rot_sum, e, ← sum_chunks, Finset.sum_comm, Finset.sum_range]
  exact Finset.sum_congr rfl fun k _ => subs_apply X k l 15 (by omega)

theorem front_apply (y : FVec Ideal S8x128 .f32) (r : Fin 8) :
    ∀ n (hn : n < 16), front y n (ix2 r (⟨r.val, by omega⟩ : Fin 128))
      = ∑ w : Fin (n + 1), y (ix2 r (⟨8 * w.val + r.val, by omega⟩ : Fin 128))
  | 0, hn => by
    rw [Fin.sum_univ_one]
    refine congrArg y (congrArg (ix2 r) (Fin.ext ?_))
    simp
  | n + 1, hn => by
    rw [Fin.sum_univ_castSucc]
    show front y n (ix2 r (⟨r.val, by omega⟩ : Fin 128)) + dynamicRotate 1 (BitVec.ofNat 32 (128 - 8 * (n + 1))) none y _ (ix2 r (⟨r.val, by omega⟩ : Fin 128)) = _
    rw [front_apply y r n (by omega), rot1_apply _ (by omega)]
    congr 1
    refine congrArg y (congrArg (ix2 r) (Fin.ext ?_))
    simp only [Fin.val_last]
    have := r.isLt
    omega

theorem frontOn_apply (acc y : FVec Ideal S8x128 .f32) (r : Fin 8) :
    ∀ n (hn : n < 16), frontOn acc y n (ix2 r (⟨r.val, by omega⟩ : Fin 128))
      = acc (ix2 r (⟨r.val, by omega⟩ : Fin 128)) + ∑ w : Fin (n + 1), y (ix2 r (⟨8 * w.val + r.val, by omega⟩ : Fin 128))
  | 0, hn => by
    rw [Fin.sum_univ_one]
    show acc _ + y _ = _
    congr 1
    refine congrArg y (congrArg (ix2 r) (Fin.ext ?_))
    simp
  | n + 1, hn => by
    rw [Fin.sum_univ_castSucc, ← add_assoc]
    show frontOn acc y n (ix2 r (⟨r.val, by omega⟩ : Fin 128)) + dynamicRotate 1 (BitVec.ofNat 32 (128 - 8 * (n + 1))) none y _ (ix2 r (⟨r.val, by omega⟩ : Fin 128)) = _
    rw [frontOn_apply acc y r n (by omega), rot1_apply _ (by omega)]
    congr 1
    refine congrArg y (congrArg (ix2 r) (Fin.ext ?_))
    simp only [Fin.val_last]
    have := r.isLt
    omega

/-- The diagonal entry of row `r`. -/
theorem diag_apply (t : FVec Ideal S8x128 .f32) (r : Fin 8) :
    diag t (ix2 r (0 : Fin 1)) = t (ix2 r (⟨r.val, by omega⟩ : Fin 128)) := by
  unfold diag
  refine (shapeCast_apply _ _ _ (ix1 r) ?_).trans ?_
  · rw [Shape.rowMajor_val_one, Shape.rowMajor_val_two]
    show r.val = r.val * 1 + 0
    omega
  refine (Ideal.multiReduction_add_single _ _ _ _ _ _).trans ?_
  have hl : ∀ k : Fin 128, Shape.Reduces.lift (s := S8x128) (t := S8) (a := 1) (by decide) (ix1 r) k = ix2 r k := by
    intro k
    funext c
    match c with
    | ⟨0, _⟩ => rfl
    | ⟨1, _⟩ => rfl
  have hs : ∀ k : Fin 128, (select (cmpi .eq (iota .tc S8x128 32 [0] (by decide)) (iota .tc S8x128 32 [1] (by decide))) t zero8)
      (ix2 r k) = if k = (⟨r.val, by omega⟩ : Fin 128) then t (ix2 r k) else 0 := by
    intro k
    rw [select_apply]
    have h0 : iota .tc S8x128 32 [0] (by decide) (ix2 r k) = BitVec.ofNat 32 r.val := iota_single_apply _ _ _ _ _ _
    have h1 : iota .tc S8x128 32 [1] (by decide) (ix2 r k) = BitVec.ofNat 32 k.val := iota_single_apply _ _ _ _ _ _
    have hc : cmpi .eq (iota .tc S8x128 32 [0] (by decide)) (iota .tc S8x128 32 [1] (by decide)) (ix2 r k)
        = IntOp.cmpi .eq (BitVec.ofNat 32 r.val) (BitVec.ofNat 32 k.val) := by
      rw [← h0, ← h1]; rfl
    rw [hc, zero8_apply]
    have hd : ∀ (r : Fin 8) (k : Fin 128), IntOp.cmpi .eq (BitVec.ofNat 32 r.val) (BitVec.ofNat 32 k.val)
        = if k.val = r.val then 1#1 else 0#1 := by decide +kernel
    rw [hd]
    by_cases hk : k.val = r.val
    · rw [if_pos hk, if_pos (Fin.ext hk)]; rfl
    · rw [if_neg hk, if_neg (fun h => hk (congrArg Fin.val h))]; rfl
  refine (Finset.sum_congr rfl fun k _ => (congrArg _ (hl k)).trans (hs k)).trans ?_
  exact (Finset.sum_ite_eq' _ _ _).trans (if_pos (Finset.mem_univ _))

/-- A column sum of the transposed parts at part `w`, row `r`. -/
theorem colSum_lanes (p : Fin 16 → FVec Ideal S8x128 .f32) (s r : Fin 8) (w : ℕ) (hw : w < 16) :
    colSum (lanesOf p) (ix2 s (⟨8 * w + r.val, by omega⟩ : Fin 128)) = ∑ a : Fin 128, p ⟨w, hw⟩ (ix2 r a) := by
  rw [colSum_apply]
  refine Finset.sum_congr rfl fun a _ => ?_
  rw [lanesOf_apply]
  have h1 : (8 * w + r.val) / 8 = w := by omega
  have h2 : (8 * w + r.val) % 8 = r.val := by omega
  exact congrArg₂ (fun (q : Fin 16) (x : Fin 8) => p q (ix2 x a)) (Fin.ext h1) (Fin.ext h2)

/-- The whole row. -/
theorem row_total (e : FVec Ideal S8x32000 .f32) (r : Fin 8) :
    ∑ n ∈ Finset.range 32000, rowZ e r n = ∑ v : Fin 32000, e (ix2 r v) := by
  rw [Finset.sum_range]
  exact Finset.sum_congr rfl fun a _ => by rw [rowZ, dif_pos]

theorem partT_sum (e : FVec Ideal S8x32000 .f32) (r : Fin 8) (w : ℕ) (hw : w < 25) :
    ∑ a : Fin 128, partT e w (ix2 r a) = ∑ n ∈ Finset.range 1280, rowZ e r (1280 * w + n) := by
  unfold partT
  rw [if_pos hw]
  exact chain_sum e _ r 9 (by omega)

/-- The row sums over windows of ten chunks are the row sums. -/
theorem sumT_apply (e : FVec Ideal S8x32000 .f32) (r : Fin 8) : sumT e (ix2 r (0 : Fin 1)) = ∑ v : Fin 32000, e (ix2 r v) := by
  unfold sumT
  rw [diag_apply, frontOn_apply _ _ _ 8 (by omega), front_apply _ _ 15 (by omega), ← row_total,
    show 32000 = 1280 * (16 + 9) from rfl, ← sum_chunks, Finset.sum_range_add, Finset.sum_range, Finset.sum_range]
  congr 1
  · refine Finset.sum_congr rfl fun w _ => ?_
    rw [colSum_lanes _ r r w.val w.isLt]
    exact partT_sum e r w.val (by omega)
  · refine Finset.sum_congr rfl fun w _ => ?_
    rw [colSum_lanes _ r r w.val (by omega)]
    exact partT_sum e r (16 + w.val) (by omega)

/-- The row sums over windows of fifteen chunks are the row sums. -/
theorem sumD_apply (e : FVec Ideal S8x32000 .f32) (r : Fin 8) : sumD e (ix2 r (0 : Fin 1)) = ∑ v : Fin 32000, e (ix2 r v) := by
  unfold sumD
  rw [diag_apply, frontOn_apply _ _ _ 0 (by omega), front_apply _ _ 15 (by omega), ← row_total,
    show 32000 = 1920 * 16 + 1280 from rfl, Finset.sum_range_add, ← sum_chunks, Finset.sum_range, Fin.sum_univ_one]
  congr 1
  · refine Finset.sum_congr rfl fun w _ => ?_
    rw [colSum_lanes _ r r w.val w.isLt]
    show ∑ a : Fin 128, partD e w.val (ix2 r a) = _
    unfold partD
    rw [if_pos w.isLt]
    exact chain_sum e _ r 14 (by omega)
  · refine (colSum_lanes _ r r 0 (by omega)).trans ?_
    show ∑ a : Fin 128, partD e 16 (ix2 r a) = _
    unfold partD
    rw [if_neg (by omega), if_pos (by omega)]
    exact chain_sum e _ r 9 (by omega)

end Values

end Cert.VerifyIdeal.Gen
-- ==== Proof.RowNormT.lean ====
module

public import proofs.«01_k».proof.Proof.RowSum
public import proofs.«01_k».proof.Proof.Gen.VerifyIdeal.Frame

@[expose] public section

/-!
The payloads of the second and third pallas calls that divide a row by its sum are the stages of `RowSum` applied to the
row: every equation here holds by unfolding.
-/

set_option maxRecDepth 16384
noncomputable section
namespace Cert.VerifyIdeal.Gen
open Idealize.ShloMosaic hiding eq_ix1 eq_ix2 eq_ix3 ix0 ix1 ix2 ix3 ix4 ix5 mulf_apply addf_apply subf_apply divf_apply maximumf_apply minimumf_apply
open Idealize.ShloMosaic.TcCoe Idealize.ShloMosaic.Tactic Idealize.ShloMosaic.ValueIdx
open Cert.Verification
variable {F : FTy → Type} [FloatOps F]

/-- The row divided by its sum, windows of ten chunks. -/
def normT (e : FVec F S8x32000 .f32) : FVec F S8x32000 .f32 := divf e (broadcastTo S8x32000 (sumT e) (by decide))
/-- The row divided by its sum, windows of fifteen chunks. -/
def normD (e : FVec F S8x32000 .f32) : FVec F S8x32000 .f32 := divf e (broadcastTo S8x32000 (sumD e) (by decide))

/-- Sixteen parts under each other. -/
def stackOf (p : Fin 16 → FVec F S8x128 .f32) : FVec F S128x128 .f32 :=
  concatenate S128x128 0 (List.ofFn fun n : Fin 16 => (⟨S8x128, p n⟩ : (s : Shape) × (s.Idx → F .f32)))
    (by exact (by decide : Shape.Concatenates [S8x128, S8x128, S8x128, S8x128, S8x128, S8x128, S8x128, S8x128, S8x128,
        S8x128, S8x128, S8x128, S8x128, S8x128, S8x128, S8x128] S128x128 0))
/-- Sublane sums of the stacked parts, as the payload computes them. -/
theorem colSum_lanesOf (p : Fin 16 → FVec F S8x128 .f32) : k1_pay46 (stackOf p) = colSum (lanesOf p) := rfl
/-- The first block's sixteen parts, from parts to the moved columns. -/
theorem front_parts (p : Fin 16 → FVec F S8x128 .f32) : k1_pay44 (k1_pay41 (p 0) (p 1) (p 2) (p 3) (p 4) (p 5) (p 6) (p 7) (p 8) (p 9) (p 10) (p 11) (p 12) (p 13) (p 14) (p 15)) (k1_pay42 (p 0) (p 1) (p 2) (p 3) (p 4) (p 5) (p 6) (p 7) (p 8) (p 9) (p 10) (p 11) (p 12) (p 13) (p 14) (p 15)) (k1_pay43 (p 0) (p 1) (p 2) (p 3) (p 4) (p 5) (p 6) (p 7) (p 8) (p 9) (p 10) (p 11) (p 12) (p 13) (p 14) (p 15)) = front (colSum (lanesOf p)) 15 := rfl
/-- The second block, the diagonal and the division. -/
theorem tail_parts (e : FVec F S8x32000 .f32) (acc : FVec F S8x128 .f32) (C : FVec F S128x128 .f32) :
    k1_pay48 e (k1_pay46 C) (k1_pay47 acc C) = divf e (broadcastTo S8x32000 (diag (frontOn acc (k1_pay46 C) 8)) (by decide)) := rfl
/-- The second block's parts are the last nine windows. -/
theorem parts_back (x0 : Vec F S8x1 .i32) (x1 : Vec F S8x32000 .f32) (x2 : Vec F S8x32000 .f32) (x3 : Vec F S8x128 .f32) (x4 : Vec F S8x128 .f32) (x5 : Vec F S8x128 .f32) (x6 : Vec F S8x1 .f32) : k1_pay113 x0 x1 x2 x3 x4 x5 x6 = stackOf fun n => partT (k1_pay95 x0 x1 x2 x3 x4 x5 x6) (16 + n.val) := rfl
/-- The first block's parts are the first sixteen windows. -/
theorem parts_front (x0 : Vec F S8x1 .i32) (x1 : Vec F S8x32000 .f32) (x2 : Vec F S8x32000 .f32) (x3 : Vec F S8x128 .f32) (x4 : Vec F S8x128 .f32) (x5 : Vec F S8x128 .f32) (x6 : Vec F S8x1 .f32) : k1_pay44 (k1_pay41 (k1_pay97 x0 x1 x2 x3 x4 x5 x6) (k1_pay98 x0 x1 x2 x3 x4 x5 x6) (k1_pay99 x0 x1 x2 x3 x4 x5 x6) (k1_pay100 x0 x1 x2 x3 x4 x5 x6) (k1_pay101 x0 x1 x2 x3 x4 x5 x6) (k1_pay102 x0 x1 x2 x3 x4 x5 x6) (k1_pay103 x0 x1 x2 x3 x4 x5 x6) (k1_pay104 x0 x1 x2 x3 x4 x5 x6) (k1_pay105 x0 x1 x2 x3 x4 x5 x6) (k1_pay106 x0 x1 x2 x3 x4 x5 x6) (k1_pay107 x0 x1 x2 x3 x4 x5 x6) (k1_pay108 x0 x1 x2 x3 x4 x5 x6) (k1_pay109 x0 x1 x2 x3 x4 x5 x6) (k1_pay110 x0 x1 x2 x3 x4 x5 x6) (k1_pay111 x0 x1 x2 x3 x4 x5 x6) (k1_pay112 x0 x1 x2 x3 x4 x5 x6)) (k1_pay42 (k1_pay97 x0 x1 x2 x3 x4 x5 x6) (k1_pay98 x0 x1 x2 x3 x4 x5 x6) (k1_pay99 x0 x1 x2 x3 x4 x5 x6) (k1_pay100 x0 x1 x2 x3 x4 x5 x6) (k1_pay101 x0 x1 x2 x3 x4 x5 x6) (k1_pay102 x0 x1 x2 x3 x4 x5 x6) (k1_pay103 x0 x1 x2 x3 x4 x5 x6) (k1_pay104 x0 x1 x2 x3 x4 x5 x6) (k1_pay105 x0 x1 x2 x3 x4 x5 x6) (k1_pay106 x0 x1 x2 x3 x4 x5 x6) (k1_pay107 x0 x1 x2 x3 x4 x5 x6) (k1_pay108 x0 x1 x2 x3 x4 x5 x6) (k1_pay109 x0 x1 x2 x3 x4 x5 x6) (k1_pay110 x0 x1 x2 x3 x4 x5 x6) (k1_pay111 x0 x1 x2 x3 x4 x5 x6) (k1_pay112 x0 x1 x2 x3 x4 x5 x6)) (k1_pay43 (k1_pay97 x0 x1 x2 x3 x4 x5 x6) (k1_pay98 x0 x1 x2 x3 x4 x5 x6) (k1_pay99 x0 x1 x2 x3 x4 x5 x6) (k1_pay100 x0 x1 x2 x3 x4 x5 x6) (k1_pay101 x0 x1 x2 x3 x4 x5 x6) (k1_pay102 x0 x1 x2 x3 x4 x5 x6) (k1_pay103 x0 x1 x2 x3 x4 x5 x6) (k1_pay104 x0 x1 x2 x3 x4 x5 x6) (k1_pay105 x0 x1 x2 x3 x4 x5 x6) (k1_pay106 x0 x1 x2 x3 x4 x5 x6) (k1_pay107 x0 x1 x2 x3 x4 x5 x6) (k1_pay108 x0 x1 x2 x3 x4 x5 x6) (k1_pay109 x0 x1 x2 x3 x4 x5 x6) (k1_pay110 x0 x1 x2 x3 x4 x5 x6) (k1_pay111 x0 x1 x2 x3 x4 x5 x6) (k1_pay112 x0 x1 x2 x3 x4 x5 x6)) = front (colSum (lanesOf fun n => partT (k1_pay95 x0 x1 x2 x3 x4 x5 x6) n.val)) 15 :=
  front_parts fun n => partT (k1_pay95 x0 x1 x2 x3 x4 x5 x6) n.val
/-- The target probabilities are the target exponentials divided by their row sum. -/
theorem pay114_eq (x0 : Vec F S8x1 .i32) (x1 : Vec F S8x32000 .f32) (x2 : Vec F S8x32000 .f32) (x3 : Vec F S8x128 .f32) (x4 : Vec F S8x128 .f32) (x5 : Vec F S8x128 .f32) (x6 : Vec F S8x1 .f32) : k1_pay114 x0 x1 x2 x3 x4 x5 x6 = normT (k1_pay95 x0 x1 x2 x3 x4 x5 x6) := by
  unfold k1_pay114
  rw [parts_front, tail_parts, parts_back, colSum_lanesOf]
  rfl
end Cert.VerifyIdeal.Gen
-- ==== Proof.RowNormD.lean ====
module

public import proofs.«01_k».proof.Proof.RowNormT
public import proofs.«01_k».proof.Proof.Gen.VerifyIdeal.Frame

@[expose] public section

/-!
The payloads of the second and third pallas calls that divide a row by its sum are the stages of `RowSum` applied to the
row: every equation here holds by unfolding.
-/

set_option maxRecDepth 16384
noncomputable section
namespace Cert.VerifyIdeal.Gen
open Idealize.ShloMosaic hiding eq_ix1 eq_ix2 eq_ix3 ix0 ix1 ix2 ix3 ix4 ix5 mulf_apply addf_apply subf_apply divf_apply maximumf_apply minimumf_apply
open Idealize.ShloMosaic.TcCoe Idealize.ShloMosaic.Tactic Idealize.ShloMosaic.ValueIdx
open Cert.Verification
variable {F : FTy → Type} [FloatOps F]

/-- The first block's parts, the last of them given as a sum, from parts to the moved columns. -/
theorem draft_front_parts (p : Fin 15 → FVec F S8x128 .f32) (a b : FVec F S8x128 .f32) :
    k1_pay82 (k1_pay81 (p 0) (p 1) (p 2) (p 3) (p 4) (p 5) (p 6) (p 7) (p 8) (p 9) (p 10) (p 11) (p 12) (p 13) (p 14) a b) 1#32
      = front (colSum (lanesOf fun n : Fin 16 => if h : n.val < 15 then p ⟨n.val, h⟩ else addf a b)) 15 := rfl

set_option maxHeartbeats 1600000 in
/-- The first block's parts are the first sixteen windows of the draft row. -/
theorem draft_front (x0 : Vec F S8x1 .i32) (x1 : Vec F S8x32000 .f32) (x2 : Vec F S8x32000 .f32) (x3 : Vec F S8x128 .f32) (x4 : Vec F S8x128 .f32) (x5 : Vec F S8x128 .f32) (x6 : Vec F S8x1 .f32) : k1_pay116 x0 x1 x2 x3 x4 x5 x6 = front (colSum (lanesOf fun n => partD (k1_pay96 x0 x1 x2 x3 x4 x5 x6) n.val)) 15 := by
  unfold k1_pay116
  refine (draft_front_parts (fun n => partD (k1_pay96 x0 x1 x2 x3 x4 x5 x6) n.val) _ _).trans ?_
  refine congrArg (fun z => front (colSum (lanesOf z)) 15) (funext fun n => ?_)
  by_cases h : n.val < 15
  · exact dif_pos h
  · have hn : n = 15 := by omega
    subst hn
    rfl

/-- The second block, which holds one part, the diagonal and the division. -/
theorem draft_tail (e : FVec F S8x32000 .f32) (acc v : FVec F S8x128 .f32) :
    k1_pay85 e acc (k1_pay83 v) (k1_pay84 v) = divf e (broadcastTo S8x32000 (diag (frontOn acc (colSum (k1_pay83 v)) 0)) (by decide)) := rfl

/-- The second block's part is the last window of the draft row. -/
theorem draft_back (x0 : Vec F S8x1 .i32) (x1 : Vec F S8x32000 .f32) (x2 : Vec F S8x32000 .f32) (x3 : Vec F S8x128 .f32) (x4 : Vec F S8x128 .f32) (x5 : Vec F S8x128 .f32) (x6 : Vec F S8x1 .f32) : k1_pay83 (k1_pay115 x0 x1 x2 x3 x4 x5 x6) = lanesOf fun n => partD (k1_pay96 x0 x1 x2 x3 x4 x5 x6) (16 + n.val) := rfl

/-- The draft probabilities are the draft exponentials divided by their row sum. -/
theorem pay119_eq (x0 : Vec F S8x1 .i32) (x1 : Vec F S8x32000 .f32) (x2 : Vec F S8x32000 .f32) (x3 : Vec F S8x128 .f32) (x4 : Vec F S8x128 .f32) (x5 : Vec F S8x128 .f32) (x6 : Vec F S8x1 .f32) : k1_pay119 x0 x1 x2 x3 x4 x5 x6 = normD (k1_pay96 x0 x1 x2 x3 x4 x5 x6) := by
  unfold k1_pay119 k1_pay118 k1_pay117
  rw [draft_front, draft_tail, draft_back]
  rfl

end Cert.VerifyIdeal.Gen
-- ==== Proof.RowNormB.lean ====
module

public import proofs.«01_k».proof.Proof.RowNormT
public import proofs.«01_k».proof.Proof.Gen.VerifyIdeal.Frame

@[expose] public section

/-!
The payloads of the second and third pallas calls that divide a row by its sum are the stages of `RowSum` applied to the
row: every equation here holds by unfolding.
-/

set_option maxRecDepth 16384
noncomputable section
namespace Cert.VerifyIdeal.Gen
open Idealize.ShloMosaic hiding eq_ix1 eq_ix2 eq_ix3 ix0 ix1 ix2 ix3 ix4 ix5 mulf_apply addf_apply subf_apply divf_apply maximumf_apply minimumf_apply
open Idealize.ShloMosaic.TcCoe Idealize.ShloMosaic.Tactic Idealize.ShloMosaic.ValueIdx
open Cert.Verification
variable {F : FTy → Type} [FloatOps F]

/-- The first block's sixteen parts, from parts to the moved columns. -/
theorem bonus_front_parts (p : Fin 16 → FVec F S8x128 .f32) :
    k2_pay40 (k2_pay37 (p 0) (p 1) (p 2) (p 3) (p 4) (p 5) (p 6) (p 7) (p 8) (p 9) (p 10) (p 11) (p 12) (p 13) (p 14) (p 15)) (k2_pay38 (p 0) (p 1) (p 2) (p 3) (p 4) (p 5) (p 6) (p 7) (p 8) (p 9) (p 10) (p 11) (p 12) (p 13) (p 14) (p 15)) (k2_pay39 (p 0) (p 1) (p 2) (p 3) (p 4) (p 5) (p 6) (p 7) (p 8) (p 9) (p 10) (p 11) (p 12) (p 13) (p 14) (p 15)) = front (colSum (lanesOf p)) 15 := rfl

/-- The first block's parts are the first sixteen windows. -/
theorem bonus_front (x0 : Vec F S8x32000 .f32) (x1 : Vec F S8x128 .f32) :
    k2_pay40 (k2_pay37 (k2_pay45 x0 x1) (k2_pay46 x0 x1) (k2_pay47 x0 x1) (k2_pay48 x0 x1) (k2_pay49 x0 x1) (k2_pay50 x0 x1) (k2_pay51 x0 x1) (k2_pay52 x0 x1) (k2_pay53 x0 x1) (k2_pay54 x0 x1) (k2_pay55 x0 x1) (k2_pay56 x0 x1) (k2_pay57 x0 x1) (k2_pay58 x0 x1) (k2_pay59 x0 x1) (k2_pay60 x0 x1)) (k2_pay38 (k2_pay45 x0 x1) (k2_pay46 x0 x1) (k2_pay47 x0 x1) (k2_pay48 x0 x1) (k2_pay49 x0 x1) (k2_pay50 x0 x1) (k2_pay51 x0 x1) (k2_pay52 x0 x1) (k2_pay53 x0 x1) (k2_pay54 x0 x1) (k2_pay55 x0 x1) (k2_pay56 x0 x1) (k2_pay57 x0 x1) (k2_pay58 x0 x1) (k2_pay59 x0 x1) (k2_pay60 x0 x1)) (k2_pay39 (k2_pay45 x0 x1) (k2_pay46 x0 x1) (k2_pay47 x0 x1) (k2_pay48 x0 x1) (k2_pay49 x0 x1) (k2_pay50 x0 x1) (k2_pay51 x0 x1) (k2_pay52 x0 x1) (k2_pay53 x0 x1) (k2_pay54 x0 x1) (k2_pay55 x0 x1) (k2_pay56 x0 x1) (k2_pay57 x0 x1) (k2_pay58 x0 x1) (k2_pay59 x0 x1) (k2_pay60 x0 x1)) = front (colSum (lanesOf fun n => partT (k2_pay44 x0 x1) n.val)) 15 :=
  bonus_front_parts fun n => partT (k2_pay44 x0 x1) n.val

/-- The second block, the diagonal, the division and the cast. -/
theorem bonus_tail (e : FVec F S8x32000 .f32) (acc : FVec F S8x128 .f32) (q : Fin 9 → FVec F S8x128 .f32) :
    k2_pay43 e acc (k2_pay41 (q 0) (q 1) (q 2) (q 3) (q 4) (q 5) (q 6) (q 7) (q 8)) (k2_pay42 (q 0) (q 1) (q 2) (q 3) (q 4) (q 5) (q 6) (q 7) (q 8))
      = truncf .bf16 (divf e (broadcastTo S8x32000 (diag (frontOn acc (colSum (k2_pay41 (q 0) (q 1) (q 2) (q 3) (q 4) (q 5) (q 6) (q 7) (q 8))) 8)) (by decide))) bitsLt_bf16_f32 := rfl

/-- The second block's parts are the last nine windows. -/
theorem bonus_back (x0 : Vec F S8x32000 .f32) (x1 : Vec F S8x128 .f32) : k2_pay41 (k2_pay61 x0 x1) (k2_pay62 x0 x1) (k2_pay63 x0 x1) (k2_pay64 x0 x1) (k2_pay65 x0 x1) (k2_pay66 x0 x1) (k2_pay67 x0 x1) (k2_pay68 x0 x1) (k2_pay69 x0 x1) = lanesOf fun n => partT (k2_pay44 x0 x1) (16 + n.val) := rfl

/-- The bonus call's block: the exponentials divided by their row sum. -/
theorem out2_eq (x0 : Vec F S8x32000 .f32) (x1 : Vec F S8x128 .f32) : out2_2 x0 x1 = View.canon [⟨r2_1, truncf .bf16 (normT (k2_pay44 x0 x1)) bitsLt_bf16_f32⟩] := by
  have h := bonus_tail (k2_pay44 x0 x1) (front (colSum (lanesOf fun n => partT (k2_pay44 x0 x1) n.val)) 15)
    ![k2_pay61 x0 x1, k2_pay62 x0 x1, k2_pay63 x0 x1, k2_pay64 x0 x1, k2_pay65 x0 x1, k2_pay66 x0 x1, k2_pay67 x0 x1, k2_pay68 x0 x1, k2_pay69 x0 x1]
  unfold out2_2
  rw [bonus_front]
  refine congrArg (fun v => View.canon [⟨r2_1, v⟩]) (h.trans ?_)
  show truncf .bf16 (divf (k2_pay44 x0 x1) (broadcastTo S8x32000 (diag (frontOn _ (colSum (k2_pay41 (k2_pay61 x0 x1) (k2_pay62 x0 x1) (k2_pay63 x0 x1) (k2_pay64 x0 x1) (k2_pay65 x0 x1) (k2_pay66 x0 x1) (k2_pay67 x0 x1) (k2_pay68 x0 x1) (k2_pay69 x0 x1))) 8)) _)) bitsLt_bf16_f32 = _
  rw [bonus_back]
  rfl

end Cert.VerifyIdeal.Gen
-- ==== Proof.Residual.lean ====
module

public import proofs.«01_k».proof.Proof.Spec
public import proofs.«01_k».proof.Proof.RowNormT
public import proofs.«01_k».proof.Proof.RowNormD
public import proofs.«01_k».proof.Proof.RowNormB

@[expose] public section

/-!
What one block of the second and of the third pallas call computes: each result of a row is the mathematics of `Spec` on
the row.
-/

set_option maxRecDepth 16384

noncomputable section

namespace Cert.VerifyIdeal.Gen

open Idealize.ShloMosaic hiding eq_ix1 eq_ix2 eq_ix3 ix0 ix1 ix2 ix3 ix4 ix5 mulf_apply addf_apply subf_apply divf_apply maximumf_apply minimumf_apply
open Idealize.ShloMosaic.TcCoe Idealize.ShloMosaic.Tactic Idealize.ShloMosaic.ValueIdx
open Idealize.SL
open Idealize.ShloMosaic.Pipeline (Dat Cfg Window)
open Cert.Verification

/-- The target exponentials of a row, from the logits and their lane maxima. -/
def eT {n : ℕ} (L : (⟨2, ![n, 32000]⟩ : Shape).Idx → EReal) (M : (⟨2, ![n, 128]⟩ : Shape).Idx → EReal) (r : Fin n) (v : Fin 32000) : EReal :=
  Ideal.exp (L (ix2 r v) - Finset.univ.sup fun l : Fin 128 => M (ix2 r l))

/-- The draft exponentials of a row, from the logits, their lane maxima and the row's scale. -/
def eD {n : ℕ} (L : (⟨2, ![n, 32000]⟩ : Shape).Idx → EReal) (M H : (⟨2, ![n, 128]⟩ : Shape).Idx → EReal) (r : Fin n) (v : Fin 32000) : EReal :=
  Ideal.exp ((L (ix2 r v) - Finset.univ.sup fun l : Fin 128 => M (ix2 r l)) * H (ix2 r (0 : Fin 128)))

/-- A vector of eight as a column. -/
theorem col8_apply (z : FVec Ideal S8 .f32) (h : S8.ShapeCasts S8x1) (r : Fin 8) : shapeCast S8x1 z h (ix2 r (0 : Fin 1)) = z (ix1 r) :=
  shapeCast_apply _ _ _ _ (by rw [Shape.rowMajor_val_one, Shape.rowMajor_val_two]; show r.val = r.val * 1 + 0; omega)

/-- A column spread over the row. -/
theorem spread_apply {φ : FTy} (z : FVec Ideal S8x1 φ) (h : S8x1.Broadcasts S8x32000) (r : Fin 8) (v : Fin 32000) :
    broadcastTo S8x32000 z h (ix2 r v) = z (ix2 r (0 : Fin 1)) := by
  refine broadcastTo_apply _ _ _ _ ?_
  intro a
  match a with
  | ⟨0, _⟩ => rfl
  | ⟨1, _⟩ => rfl

/-- The largest of a row's 128 lanes. -/
theorem rowMax_apply (z : FVec Ideal S8x128 .f32) (h : S8x128.Reduces [1] S8) (hφ : FKind.Formats .f32) (hacc) (r : Fin 8) :
    multiReduction .maximumf [1] S8 z 0xFF800000#32 h hφ hacc (ix1 r) = Finset.univ.sup fun l : Fin 128 => z (ix2 r l) := by
  rw [Ideal.multiReduction_maximumf_single]
  show Finset.univ.fold max (Ideal.ofBits .f32 0xFF800000#32) _ = _
  rw [ofBits_neg_inf]
  refine congrArg (fun f : Fin 128 → EReal => (Finset.univ : Finset (Fin 128)).fold max ⊥ f) (funext fun l => congrArg z ?_)
  funext a
  match a with
  | ⟨0, _⟩ => rfl
  | ⟨1, _⟩ => rfl

/-- The sum of a row. -/
theorem rowAdd_apply (z : FVec Ideal S8x32000 .f32) (h : S8x32000.Reduces [1] S8) (hφ : FKind.Formats .f32) (hacc) (r : Fin 8) :
    multiReduction .add [1] S8 z 0x00000000#32 h hφ hacc (ix1 r) = ∑ v : Fin 32000, z (ix2 r v) := by
  rw [Ideal.multiReduction_add_single]
  refine Finset.sum_congr rfl fun v _ => congrArg z ?_
  funext a
  match a with
  | ⟨0, _⟩ => rfl
  | ⟨1, _⟩ => rfl

theorem off_zero : (![0, 0] : Fin 2 → ℕ) = fun _ => 0 := by
  funext a
  match a with
  | ⟨0, _⟩ => rfl
  | ⟨1, _⟩ => rfl

theorem pay1_apply (M : Vec Ideal S8x128 .f32) (L : Vec Ideal S8x32000 .f32) (r : Fin 8) (v : Fin 32000) :
    k1_pay1 (F := Ideal) M L (ix2 r v) = eT L M r v := by
  unfold k1_pay1 eT
  simp only [shapeCast_self]
  show Ideal.exp (L (ix2 r v) - broadcastTo S8x32000 _ _ (ix2 r v)) = _
  rw [spread_apply, col8_apply]
  exact congrArg (fun z : EReal => Ideal.exp (L (ix2 r v) - z)) (rowMax_apply M _ _ _ r)

theorem k2_pay1_apply (M : Vec Ideal S8x128 .f32) (L : Vec Ideal S8x32000 .f32) (r : Fin 8) (v : Fin 32000) :
    k2_pay1 (F := Ideal) M L (ix2 r v) = eT L M r v := pay1_apply M L r v

theorem pay2_apply (H M : Vec Ideal S8x128 .f32) (L : Vec Ideal S8x32000 .f32) (r : Fin 8) (v : Fin 32000) :
    k1_pay2 (F := Ideal) H M L (ix2 r v) = eD L M H r v := by
  unfold k1_pay2 eD
  simp only [shapeCast_self]
  show Ideal.exp ((L (ix2 r v) - broadcastTo S8x32000 _ _ (ix2 r v)) * broadcastTo S8x32000 _ _ (ix2 r v)) = _
  rw [spread_apply, spread_apply, col8_apply]
  refine congrArg₂ (fun y z : EReal => Ideal.exp ((L (ix2 r v) - y) * z)) (rowMax_apply M _ _ _ r) ?_
  refine extractStridedSlice_apply _ _ _ _ _ ?_
  intro a
  match a with
  | ⟨0, _⟩ => exact (Nat.zero_add _).symm
  | ⟨1, _⟩ => rfl

theorem normT_apply (e : FVec Ideal S8x32000 .f32) (r : Fin 8) (v : Fin 32000) :
    normT e (ix2 r v) = nrm (fun u => e (ix2 r u)) v := by
  unfold normT nrm
  show Ideal.div (e (ix2 r v)) (broadcastTo S8x32000 _ _ (ix2 r v)) = _
  rw [spread_apply, sumT_apply]

theorem normD_apply (e : FVec Ideal S8x32000 .f32) (r : Fin 8) (v : Fin 32000) :
    normD e (ix2 r v) = nrm (fun u => e (ix2 r u)) v := by
  unfold normD nrm
  show Ideal.div (e (ix2 r v)) (broadcastTo S8x32000 _ _ (ix2 r v)) = _
  rw [spread_apply, sumD_apply]

section
variable (p q : FVec Ideal S8x32000 .f32) (tok : Vec Ideal S8x1 .i32) (r : Fin 8)

/-- The tokens' hits, each row's token against the column number. -/
theorem hit_apply (v : Fin 32000) :
    k1_pay86 (F := Ideal) tok (ix2 r v) = IntOp.cmpi .eq (BitVec.ofNat 32 v.val) (tok (ix2 r (0 : Fin 1))) := by
  unfold k1_pay86
  rw [shapeCast_self]
  show IntOp.cmpi .eq (iota .tc S8x32000 32 [1] _ (ix2 r v)) (broadcastTo S8x32000 tok _ (ix2 r v)) = _
  rw [iota_single_apply]
  refine congrArg (IntOp.cmpi .eq _) ?_
  refine broadcastTo_apply _ _ _ _ ?_
  intro a
  match a with
  | ⟨0, _⟩ => rfl
  | ⟨1, _⟩ => rfl

/-- The sum over the hits. -/
theorem hits_sum (h : S8x32000.Reduces [1] S8) (hφ : FKind.Formats .f32) (hacc) :
    multiReduction .add [1] S8 (select (k1_pay86 (F := Ideal) tok) p (broadcast S8x32000 (Scalar.ofBits (F := Ideal) .f32 0x00000000#32))) 0x00000000#32 h hφ hacc (ix1 r)
      = hitSum (tok (ix2 r (0 : Fin 1))) fun v => p (ix2 r v) := by
  rw [rowAdd_apply]
  refine Finset.sum_congr rfl fun v _ => ?_
  show Scalar.select (k1_pay86 (F := Ideal) tok (ix2 r v)) (p (ix2 r v)) (Ideal.ofBits .f32 0x00000000#32) = _
  rw [hit_apply, Ideal.ofBits_zero_f32]

/-- A word's value, whatever it is, against a quotient: the smaller of the two. -/
theorem min_div_apply (w : BitVec 32) (A B : FVec Ideal S8x1 .f32) (i : S8x1.Idx) :
    minimumf (broadcast S8x1 (Scalar.ofBits (F := Ideal) .f32 w)) (divf A B) i = min (Ideal.ofBits .f32 w) (Ideal.div (A i) (B i)) := rfl

theorem pay89_apply :
    k1_pay89 (F := Ideal) (k1_pay87 p tok) (select (k1_pay86 (F := Ideal) tok) q (broadcast S8x32000 (Scalar.ofBits (F := Ideal) .f32 0x00000000#32))) (ix2 r (0 : Fin 1))
      = ratio (tok (ix2 r (0 : Fin 1))) (fun v => p (ix2 r v)) (fun v => q (ix2 r v)) := by
  unfold k1_pay89 k1_pay87 ratio
  refine (min_div_apply _ _ _ _).trans ?_
  generalize Ideal.ofBits .f32 0x3F800000#32 = one
  exact congrArg₂ (fun a b : EReal => min one (Ideal.div a b))
    ((col8_apply _ _ r).trans (hits_sum p tok r _ _ _)) ((col8_apply _ _ r).trans (hits_sum q tok r _ _ _))

theorem pay90_apply (v : Fin 32000) : k1_pay90 (F := Ideal) p q (ix2 r v) = excess (fun u => p (ix2 r u)) (fun u => q (ix2 r u)) v := by
  unfold k1_pay90 excess
  show max (p (ix2 r v) - q (ix2 r v)) (Ideal.ofBits .f32 0x00000000#32) = _
  rw [Ideal.ofBits_zero_f32]

theorem pay91_apply : k1_pay91 (F := Ideal) p q (ix2 r (0 : Fin 1)) = mass (fun u => p (ix2 r u)) (fun u => q (ix2 r u)) := by
  unfold k1_pay91 mass
  rw [col8_apply]
  refine (rowAdd_apply _ _ _ _ r).trans ?_
  exact Finset.sum_congr rfl fun v _ => pay90_apply p q r v

/-- A stored quotient. -/
theorem trunc_div_apply (A B : FVec Ideal S8x32000 .f32) (h) (i : S8x32000.Idx) :
    (truncf .bf16 (divf A B) h : FVec Ideal S8x32000 .bf16) i = Ideal.div (A i) (B i) := rfl

/-- A logarithm of a column. -/
theorem log_apply (A : FVec Ideal S8x1 .f32) (i : S8x1.Idx) : log A i = Ideal.log (A i) := rfl

theorem pay92_apply (v : Fin 32000) : k1_pay92 (F := Ideal) p q (ix2 r v) = resid (fun u => p (ix2 r u)) (fun u => q (ix2 r u)) v := by
  unfold k1_pay92 resid nrm
  refine (trunc_div_apply _ _ _ _).trans ?_
  rw [spread_apply, pay90_apply, pay91_apply]
  rfl

end

section
variable (x0 : Vec Ideal S8x1 .i32) (x1 : Vec Ideal S8x32000 .f32) (x2 : Vec Ideal S8x32000 .f32) (x3 x4 x5 : Vec Ideal S8x128 .f32)
  (x6 : Vec Ideal S8x1 .f32) (r : Fin 8)

theorem pT_row : (fun v => k1_pay114 (F := Ideal) x0 x1 x2 x3 x4 x5 x6 (ix2 r v)) = nrm (eT x1 x3 r) := by
  funext v
  rw [pay114_eq, normT_apply]
  refine congrArg (fun f => nrm f v) (funext fun u => ?_)
  unfold k1_pay95
  rw [View.ld_unit_zero off_zero, View.ld_unit_zero off_zero, pay1_apply]

theorem pD_row : (fun v => k1_pay119 (F := Ideal) x0 x1 x2 x3 x4 x5 x6 (ix2 r v)) = nrm (eD x2 x4 x5 r) := by
  funext v
  rw [pay119_eq, normD_apply]
  refine congrArg (fun f => nrm f v) (funext fun u => ?_)
  unfold k1_pay96
  rw [View.ld_unit_zero off_zero, View.ld_unit_zero off_zero, View.ld_unit_zero off_zero, pay2_apply]

theorem out1_7_apply (v : Fin 32000) :
    out1_7 (F := Ideal) x0 x1 x2 x3 x4 x5 x6 (ix2 r v) = resid (nrm (eT x1 x3 r)) (nrm (eD x2 x4 x5 r)) v := by
  unfold out1_7
  rw [View.canon_unit_zero off_zero, pay92_apply, pT_row, pD_row]

theorem out1_8_apply :
    out1_8 (F := Ideal) x0 x1 x2 x3 x4 x5 x6 (ix2 r (0 : Fin 1)) = Ideal.log (mass (nrm (eT x1 x3 r)) (nrm (eD x2 x4 x5 r))) := by
  unfold out1_8
  rw [View.canon_unit_zero off_zero]
  unfold k1_pay93
  refine (log_apply _ _).trans ?_
  rw [pay91_apply, pT_row, pD_row]

theorem pay89_row :
    k1_pay89 (F := Ideal) (k1_pay120 x0 x1 x2 x3 x4 x5 x6) (k1_pay121 x0 x1 x2 x3 x4 x5 x6) (ix2 r (0 : Fin 1))
      = ratio (x0 (ix2 r (0 : Fin 1))) (nrm (eT x1 x3 r)) (nrm (eD x2 x4 x5 r)) := by
  have h : k1_pay121 (F := Ideal) x0 x1 x2 x3 x4 x5 x6
      = select (k1_pay86 (F := Ideal) (View.ld x0 r1_2)) (k1_pay119 x0 x1 x2 x3 x4 x5 x6) (broadcast S8x32000 (Scalar.ofBits (F := Ideal) .f32 0x00000000#32)) := rfl
  rw [h]
  unfold k1_pay120
  rw [pay89_apply, pT_row, pD_row, View.ld_unit_zero off_zero]

theorem out1_9_apply :
    out1_9 (F := Ideal) x0 x1 x2 x3 x4 x5 x6 (ix2 r (0 : Fin 1)) = ratio (x0 (ix2 r (0 : Fin 1))) (nrm (eT x1 x3 r)) (nrm (eD x2 x4 x5 r)) := by
  unfold out1_9
  rw [View.canon_unit_zero off_zero, pay89_row]

theorem out1_10_apply :
    out1_10 (F := Ideal) x0 x1 x2 x3 x4 x5 x6 (ix2 r (0 : Fin 1))
      = x6 (ix2 r (0 : Fin 1)) - ratio (x0 (ix2 r (0 : Fin 1))) (nrm (eT x1 x3 r)) (nrm (eD x2 x4 x5 r)) := by
  unfold out1_10
  rw [View.canon_unit_zero off_zero]
  unfold k1_pay94
  rw [shapeCast_self, View.ld_unit_zero off_zero]
  show x6 (ix2 r (0 : Fin 1)) - k1_pay89 (F := Ideal) _ _ (ix2 r (0 : Fin 1)) = _
  rw [pay89_row]

end

/-- The bonus call's block. -/
theorem out2_2_apply (x0 : Vec Ideal S8x32000 .f32) (x1 : Vec Ideal S8x128 .f32) (r : Fin 8) (v : Fin 32000) :
    out2_2 (F := Ideal) x0 x1 (ix2 r v) = nrm (eT x0 x1 r) v := by
  rw [out2_eq, View.canon_unit_zero off_zero]
  show normT (k2_pay44 (F := Ideal) x0 x1) (ix2 r v) = _
  rw [normT_apply]
  refine congrArg (fun f => nrm f v) (funext fun u => ?_)
  unfold k2_pay44
  rw [View.ld_unit_zero off_zero, View.ld_unit_zero off_zero, k2_pay1_apply]

end Cert.VerifyIdeal.Gen
-- ==== Proof.ResidualArray.lean ====
module

public import proofs.«01_k».proof.Proof.Residual

@[expose] public section

/-!
What the second and the third pallas call of the idealized kernel leave in their result arrays, for any contents of their
inputs: each row is the mathematics of `Spec` on the row of target and of draft distributions.
-/

set_option maxRecDepth 16384

noncomputable section

namespace Cert.VerifyIdeal.Gen

open Idealize.ShloMosaic hiding eq_ix1 eq_ix2 eq_ix3 ix0 ix1 ix2 ix3 ix4 ix5 mulf_apply addf_apply subf_apply divf_apply maximumf_apply minimumf_apply
open Idealize.ShloMosaic.TcCoe Idealize.ShloMosaic.Tactic Idealize.ShloMosaic.ValueIdx
open Idealize.SL
open Idealize.ShloMosaic.Pipeline (Dat Cfg Window)
open Cert.Verification

variable (V : (c : Dev nD) → (b : Ref sig .tc) → Buf (Elt Ideal) ((c : Thread nD τ).loc b)) (c : Dev nD)

/-- The target distribution of a row, of the arrays as the call finds them. -/
def rowT (R : Fin 2448) : Fin 32000 → EReal := nrm (eT (n := 2448) (V c main_v6_0) (V c main_v6_2) R)

/-- The draft distribution of a row, of the arrays as the call finds them. -/
def rowD (R : Fin 2176) : Fin 32000 → EReal := nrm (eD (n := 2176) (V c main_v6_1) (V c main_v6_3) (V c main_arg4) R)

/-- A draft row among the rows of the target. -/
def up (R : Fin 2176) : Fin 2448 := ⟨R.val, by omega⟩

theorem idx1_0 : ∀ t : Fin grid1.N, win1_0.index t = ![t.val, 0] := by decide +kernel
theorem idx1_1 : ∀ t : Fin grid1.N, win1_1.index t = ![t.val, 0] := by decide +kernel
theorem idx1_2 : ∀ t : Fin grid1.N, win1_2.index t = ![t.val, 0] := by decide +kernel
theorem idx1_3 : ∀ t : Fin grid1.N, win1_3.index t = ![t.val, 0] := by decide +kernel
theorem idx1_4 : ∀ t : Fin grid1.N, win1_4.index t = ![t.val, 0] := by decide +kernel
theorem idx1_5 : ∀ t : Fin grid1.N, win1_5.index t = ![t.val, 0] := by decide +kernel
theorem idx1_6 : ∀ t : Fin grid1.N, win1_6.index t = ![t.val, 0] := by decide +kernel
theorem idx1_7 : ∀ t : Fin grid1.N, win1_7.index t = ![t.val, 0] := by decide +kernel
theorem idx1_8 : ∀ t : Fin grid1.N, win1_8.index t = ![t.val, 0] := by decide +kernel
theorem idx1_9 : ∀ t : Fin grid1.N, win1_9.index t = ![t.val, 0] := by decide +kernel
theorem idx1_10 : ∀ t : Fin grid1.N, win1_10.index t = ![t.val, 0] := by decide +kernel
theorem idx2_0 : ∀ t : Fin grid2.N, win2_0.index t = ![t.val + 272, 0] := by decide +kernel
theorem idx2_1 : ∀ t : Fin grid2.N, win2_1.index t = ![t.val + 272, 0] := by decide +kernel
theorem idx2_2 : ∀ t : Fin grid2.N, win2_2.index t = ![t.val, 0] := by decide +kernel

theorem lt272 (t : Fin cfg1.N) : t.val < 272 := t.isLt
theorem lt34 (t : Fin cfg2.N) : t.val < 34 := t.isLt

section
variable (t : Fin cfg1.N) (r : Fin 8) (R : Fin 2176) (hR : R.val = t.val * 8 + r.val)
include hR

theorem blk1_0 : iblk1 V c 0 t (ix2 r (0 : Fin 1)) = V c main_v7 (ix2 R (0 : Fin 1)) := by
  blk_ext [iblk1, idx1_0 t]; exact hR.symm

theorem blk1_1 (v : Fin 32000) : iblk1 V c 1 t (ix2 r v) = V c main_v6_0 (ix2 (up R) v) := by
  blk_ext [iblk1, idx1_1 t]; exact hR.symm

theorem blk1_2 (v : Fin 32000) : iblk1 V c 2 t (ix2 r v) = V c main_v6_1 (ix2 R v) := by
  blk_ext [iblk1, idx1_2 t]; exact hR.symm

theorem blk1_3 (l : Fin 128) : iblk1 V c 3 t (ix2 r l) = V c main_v6_2 (ix2 (up R) l) := by
  blk_ext [iblk1, idx1_3 t]; exact hR.symm

theorem blk1_4 (l : Fin 128) : iblk1 V c 4 t (ix2 r l) = V c main_v6_3 (ix2 R l) := by
  blk_ext [iblk1, idx1_4 t]; exact hR.symm

theorem blk1_5 (l : Fin 128) : iblk1 V c 5 t (ix2 r l) = V c main_arg4 (ix2 R l) := by
  blk_ext [iblk1, idx1_5 t]; exact hR.symm

theorem blk1_6 : iblk1 V c 6 t (ix2 r (0 : Fin 1)) = V c main_v8 (ix2 R (0 : Fin 1)) := by
  blk_ext [iblk1, idx1_6 t]; exact hR.symm

/-- A block's target row is the array's. -/
theorem blkT : nrm (eT (n := 8) (iblk1 V c 1 t) (iblk1 V c 3 t) r) = rowT V c (up R) := by
  refine congrArg nrm (funext fun v => ?_)
  unfold eT
  exact congrArg₂ (fun a (b : Fin 128 → EReal) => Ideal.exp (a - Finset.univ.sup b)) (blk1_1 V c t r R hR v)
    (funext fun l => blk1_3 V c t r R hR l)

/-- A block's draft row is the array's. -/
theorem blkD : nrm (eD (n := 8) (iblk1 V c 2 t) (iblk1 V c 4 t) (iblk1 V c 5 t) r) = rowD V c R := by
  refine congrArg nrm (funext fun v => ?_)
  unfold eD
  exact congrArg₂ (fun (a h : EReal) => Ideal.exp (a * h))
    (congrArg₂ (fun a (b : Fin 128 → EReal) => a - Finset.univ.sup b) (blk1_2 V c t r R hR v) (funext fun l => blk1_4 V c t r R hR l))
    (blk1_5 V c t r R hR 0)

end

/-- The residual distributions. -/
theorem arr1_7 : (dat1 V c).arrAt 7 cfg1.N
    = fun i : S2176x32000.Idx => resid (rowT V c (up (i 0))) (rowD V c (i 0)) (i 1) := by
  refine (dat1 V c).arrAt_eq_of_covers 7 _ (by decide +kernel) fun t hf y => ?_
  blk_simp
  rw [after1_7]
  idx_bounds y
  have hR : ((win1_7.blk t).view.emb y 0).val = t.val * 8 + (y 0).val := by blk_simp [idx1_7 t]
  have hc : (win1_7.blk t).view.emb y 1 = y 1 := Fin.ext (by blk_simp [idx1_7 t])
  refine Eq.trans ?_ ((out1_7_apply (iblk1 V c 0 t) (iblk1 V c 1 t) (iblk1 V c 2 t) (iblk1 V c 3 t) (iblk1 V c 4 t) (iblk1 V c 5 t) (iblk1 V c 6 t) (y 0) (y 1)).trans ?_)
  · exact congrArg _ (eq_ix2 _)
  · rw [blkT V c t (y 0) _ hR, blkD V c t (y 0) _ hR]
    exact congrArg _ hc.symm

/-- The logarithms of the mass. -/
theorem arr1_8 : (dat1 V c).arrAt 8 cfg1.N
    = fun i : S2176x1.Idx => Ideal.log (mass (rowT V c (up (i 0))) (rowD V c (i 0))) := by
  refine (dat1 V c).arrAt_eq_of_covers 8 _ (by decide +kernel) fun t hf y => ?_
  blk_simp
  rw [after1_8]
  idx_bounds y
  have hR : ((win1_8.blk t).view.emb y 0).val = t.val * 8 + (y 0).val := by blk_simp [idx1_8 t]
  refine Eq.trans ?_ ((out1_8_apply (iblk1 V c 0 t) (iblk1 V c 1 t) (iblk1 V c 2 t) (iblk1 V c 3 t) (iblk1 V c 4 t) (iblk1 V c 5 t) (iblk1 V c 6 t) (y 0)).trans ?_)
  · refine congrArg _ ((eq_ix2 _).trans (congrArg (ix2 (y 0)) (Fin.ext ?_)))
    show (y 1).val = 0
    omega
  · rw [blkT V c t (y 0) _ hR, blkD V c t (y 0) _ hR]

/-- The acceptance ratios. -/
theorem arr1_9 : (dat1 V c).arrAt 9 cfg1.N
    = fun i : S2176x1.Idx => ratio (V c main_v7 (ix2 (i 0) (0 : Fin 1))) (rowT V c (up (i 0))) (rowD V c (i 0)) := by
  refine (dat1 V c).arrAt_eq_of_covers 9 _ (by decide +kernel) fun t hf y => ?_
  blk_simp
  rw [after1_9]
  idx_bounds y
  have hR : ((win1_9.blk t).view.emb y 0).val = t.val * 8 + (y 0).val := by blk_simp [idx1_9 t]
  refine Eq.trans ?_ ((out1_9_apply (iblk1 V c 0 t) (iblk1 V c 1 t) (iblk1 V c 2 t) (iblk1 V c 3 t) (iblk1 V c 4 t) (iblk1 V c 5 t) (iblk1 V c 6 t) (y 0)).trans ?_)
  · refine congrArg _ ((eq_ix2 _).trans (congrArg (ix2 (y 0)) (Fin.ext ?_)))
    show (y 1).val = 0
    omega
  · rw [blkT V c t (y 0) _ hR, blkD V c t (y 0) _ hR, blk1_0 V c t (y 0) _ hR]

/-- A uniform less a ratio. -/
def marginOf (u q : EReal) : EReal := u - q

/-- The margins. -/
theorem arr1_10 : (dat1 V c).arrAt 10 cfg1.N
    = fun i : S2176x1.Idx => marginOf (V c main_v8 (ix2 (i 0) (0 : Fin 1)))
        (ratio (V c main_v7 (ix2 (i 0) (0 : Fin 1))) (rowT V c (up (i 0))) (rowD V c (i 0))) := by
  refine (dat1 V c).arrAt_eq_of_covers 10 _ (by decide +kernel) fun t hf y => ?_
  blk_simp
  rw [after1_10]
  idx_bounds y
  have hR : ((win1_10.blk t).view.emb y 0).val = t.val * 8 + (y 0).val := by blk_simp [idx1_10 t]
  refine Eq.trans ?_ ((out1_10_apply (iblk1 V c 0 t) (iblk1 V c 1 t) (iblk1 V c 2 t) (iblk1 V c 3 t) (iblk1 V c 4 t) (iblk1 V c 5 t) (iblk1 V c 6 t) (y 0)).trans ?_)
  · refine congrArg _ ((eq_ix2 _).trans (congrArg (ix2 (y 0)) (Fin.ext ?_)))
    show (y 1).val = 0
    omega
  · rw [blkT V c t (y 0) _ hR, blkD V c t (y 0) _ hR, blk1_0 V c t (y 0) _ hR, blk1_6 V c t (y 0) _ hR]
    rfl

/-- A bonus row among the rows of the target. -/
def bonusRow (b : Fin 272) : Fin 2448 := ⟨2176 + b.val, by omega⟩

/-- The bonus distributions. -/
theorem arr2_2 : (dat2 V c).arrAt 2 cfg2.N = fun i : S272x32000.Idx => rowT V c (bonusRow (i 0)) (i 1) := by
  refine (dat2 V c).arrAt_eq_of_covers 2 _ (by decide +kernel) fun t hf y => ?_
  blk_simp
  rw [after2_2]
  idx_bounds y
  have hR : ((win2_2.blk t).view.emb y 0).val = t.val * 8 + (y 0).val := by blk_simp [idx2_2 t]
  have hc : (win2_2.blk t).view.emb y 1 = y 1 := Fin.ext (by blk_simp [idx2_2 t])
  have hL : ∀ v : Fin 32000, iblk2 V c 0 t (ix2 (y 0) v) = V c main_v6_0 (ix2 (bonusRow ((win2_2.blk t).view.emb y 0)) v) := fun v => by
    blk_ext [iblk2, idx2_0 t]
    show (t.val + 272) * 8 + (y 0).val = 2176 + ((win2_2.blk t).view.emb y 0).val
    omega
  have hM : ∀ l : Fin 128, iblk2 V c 1 t (ix2 (y 0) l) = V c main_v6_2 (ix2 (bonusRow ((win2_2.blk t).view.emb y 0)) l) := fun l => by
    blk_ext [iblk2, idx2_1 t]
    show (t.val + 272) * 8 + (y 0).val = 2176 + ((win2_2.blk t).view.emb y 0).val
    omega
  refine Eq.trans ?_ ((out2_2_apply (iblk2 V c 0 t) (iblk2 V c 1 t) (y 0) (y 1)).trans ?_)
  · exact congrArg _ (eq_ix2 _)
  · rw [hc]
    refine congrArg (fun f => nrm f (y 1)) (funext fun v => ?_)
    unfold eT
    exact congrArg₂ (fun a (b : Fin 128 → EReal) => Ideal.exp (a - Finset.univ.sup b)) (hL v) (funext hM)

end Cert.VerifyIdeal.Gen
-- ==== Proof.Host.lean ====
module

public import proofs.«01_k».proof.Proof.LogitsArray
public import proofs.«01_k».proof.Proof.ResidualArray

@[expose] public section

/-!
The host operations around the three pallas calls of the idealized kernel, at an index: the rows the first call takes, the
columns the second call takes, and the five results read off what the calls leave.
-/

set_option maxRecDepth 16384

noncomputable section

namespace Cert.VerifyIdeal.Gen

open Idealize.ShloMosaic hiding eq_ix1 eq_ix2 eq_ix3 ix0 ix1 ix2 ix3 ix4 ix5 mulf_apply addf_apply subf_apply divf_apply maximumf_apply minimumf_apply
open Idealize.ShloMosaic.TcCoe Idealize.ShloMosaic.Tactic Idealize.ShloMosaic.ValueIdx
open Idealize.SL
open Idealize.ShloMosaic.Pipeline (Dat Cfg Window)
open Cert.Verification

variable (m : (ℓ : Loc nD τ sig) → Buf (Elt Ideal) ℓ) (ρ : Dev nD → PrngReg) (c : Dev nD)

/-- The row of a draft position. -/
def rowOf (b : Fin 272) (s : Fin 8) : Fin 2176 := ⟨b.val * 8 + s.val, by omega⟩

theorem w1_v4 : W1 m ρ c (Proc.devRef .tc main_v4)
    = concatenate S2448x4096 0
      [⟨S2176x4096, shapeCast S2176x4096 (extractStridedSlice S272x8x4096 ![0, 0, 0] (m ((c.tc : Thread nD τ).loc main_arg0)) slices_S272x9x4096_S272x8x4096_0_0_0) shapeCasts_S272x8x4096_S2176x4096⟩,
       ⟨S272x4096, shapeCast S272x4096 (extractStridedSlice S272x1x4096 ![0, 8, 0] (m ((c.tc : Thread nD τ).loc main_arg0)) slices_S272x9x4096_S272x1x4096_0_8_0) shapeCasts_S272x1x4096_S272x4096⟩]
      concatenates_S2176x4096_S272x4096_S2448x4096_d0 := by
  simp only [W1, hostOps0]
  after_results <;> rfl

theorem w1_v5 : W1 m ρ c (Proc.devRef .tc main_v5)
    = shapeCast S1x32000 (m ((c.tc : Thread nD τ).loc main_arg6)) shapeCasts_S32000_S1x32000 := by
  simp only [W1, hostOps0]
  after_results <;> rfl

/-- The activations of a draft position. -/
theorem w1_v4_pos (b : Fin 272) (s : Fin 8) (k : Fin 4096) :
    V1 m ρ c main_v4 (ix2 (up (rowOf b s)) k) = m ((c.tc : Thread nD τ).loc main_arg0) (ix3 b (⟨s.val, by omega⟩ : Fin 9) k) := by
  show W1 m ρ c (Proc.devRef .tc main_v4) _ = _
  rw [w1_v4]
  refine (concatenate_pair_apply_left (t := S2448x4096) (s₁ := S2176x4096) (s₂ := S272x4096) _ _ _ _ _ rfl (ix2 (rowOf b s) k) ?_).trans ?_
  · intro a
    match a with
    | ⟨0, _⟩ => rfl
    | ⟨1, _⟩ => rfl
  refine (shapeCast_apply _ _ _ (ix3 b s k) ?_).trans ?_
  · rw [Shape.rowMajor_val_two, Shape.rowMajor_val_three]
    rfl
  refine extractStridedSlice_apply _ _ _ _ _ ?_
  intro a
  match a with
  | ⟨0, _⟩ => exact (Nat.zero_add _).symm
  | ⟨1, _⟩ => exact (Nat.zero_add _).symm
  | ⟨2, _⟩ => exact (Nat.zero_add _).symm

/-- The activations of a bonus position. -/
theorem w1_v4_bonus (b : Fin 272) (k : Fin 4096) :
    V1 m ρ c main_v4 (ix2 (bonusRow b) k) = m ((c.tc : Thread nD τ).loc main_arg0) (ix3 b (8 : Fin 9) k) := by
  show W1 m ρ c (Proc.devRef .tc main_v4) _ = _
  rw [w1_v4]
  refine (concatenate_pair_apply_right (t := S2448x4096) (s₁ := S2176x4096) (s₂ := S272x4096) _ _ _ _ _ rfl rfl (ix2 b k) ?_ ?_).trans ?_
  · intro a ha
    match a with
    | ⟨0, _⟩ => exact absurd rfl ha
    | ⟨1, _⟩ => rfl
  · show b.val + 2176 = 2176 + b.val
    omega
  refine (shapeCast_apply _ _ _ (ix3 b (0 : Fin 1) k) ?_).trans ?_
  · rw [Shape.rowMajor_val_two, Shape.rowMajor_val_three]
    show (b.val * 1 + 0) * 4096 + k.val = b.val * 4096 + k.val
    omega
  refine extractStridedSlice_apply _ _ _ _ _ ?_
  intro a
  match a with
  | ⟨0, _⟩ => exact (Nat.zero_add _).symm
  | ⟨1, _⟩ => rfl
  | ⟨2, _⟩ => exact (Nat.zero_add _).symm

/-- The draft's weight scales. -/
theorem w1_v5_apply (v : Fin 32000) :
    V1 m ρ c main_v5 (ix2 (0 : Fin 1) v) = m ((c.tc : Thread nD τ).loc main_arg6) (ix1 v) := by
  show W1 m ρ c (Proc.devRef .tc main_v5) _ = _
  rw [w1_v5]
  exact shapeCast_apply (s := S32000) _ _ _ _ (by
    rw [Shape.rowMajor_val_one, Shape.rowMajor_val_two]
    show v.val = 0 * 32000 + v.val
    omega)

/-- A column made of the positions. -/
theorem col_apply {e : EltTy} (z : Vec Ideal S272x8 e) (h : S272x8.ShapeCasts S2176x1) (b : Fin 272) (s : Fin 8) :
    shapeCast S2176x1 z h (ix2 (rowOf b s) (0 : Fin 1)) = z (ix2 b s) :=
  shapeCast_apply _ _ _ _ (by
    rw [Shape.rowMajor_val_two, Shape.rowMajor_val_two]
    show b.val * 8 + s.val = (b.val * 8 + s.val) * 1 + 0
    omega)

/-- The positions made of a column. -/
theorem uncol_apply {e : EltTy} (z : Vec Ideal S2176x1 e) (h : S2176x1.ShapeCasts S272x8) (b : Fin 272) (s : Fin 8) :
    shapeCast S272x8 z h (ix2 b s) = z (ix2 (rowOf b s) (0 : Fin 1)) :=
  shapeCast_apply _ _ _ _ (by
    rw [Shape.rowMajor_val_two, Shape.rowMajor_val_two]
    show (b.val * 8 + s.val) * 1 + 0 = b.val * 8 + s.val
    omega)

/-- The tokens. -/
theorem w3_v7_apply (b : Fin 272) (s : Fin 8) :
    V3 m ρ c main_v7 (ix2 (rowOf b s) (0 : Fin 1)) = m ((c.tc : Thread nD τ).loc main_arg7) (ix2 b s) := by
  have h : W3 m ρ c (Proc.devRef .tc main_v7)
      = shapeCast S2176x1 (W2 m ρ c (Proc.devRef .tc main_arg7)) shapeCasts_S272x8_S2176x1 := by
    simp only [W3, hostOps1]
    after_results <;> rfl
  show W3 m ρ c (Proc.devRef .tc main_v7) _ = _
  rw [h, W2_args m ρ c main_arg7 (by decide)]
  exact col_apply _ _ b s

/-- The uniforms. -/
theorem w3_v8_apply (b : Fin 272) (s : Fin 8) :
    V3 m ρ c main_v8 (ix2 (rowOf b s) (0 : Fin 1)) = m ((c.tc : Thread nD τ).loc main_arg8) (ix2 b s) := by
  have h : W3 m ρ c (Proc.devRef .tc main_v8)
      = shapeCast S2176x1 (W2 m ρ c (Proc.devRef .tc main_arg8)) shapeCasts_S272x8_S2176x1 := by
    simp only [W3, hostOps1]
    after_results <;> rfl
  show W3 m ρ c (Proc.devRef .tc main_v8) _ = _
  rw [h, W2_args m ρ c main_arg8 (by decide)]
  exact col_apply _ _ b s

theorem v3_v6_0 : V3 m ρ c main_v6_0 = LTof (V1 m ρ) c :=
  (W3_of m ρ c main_v6_0 (by decide)).trans ((W2_arr m ρ c 6).trans (arr0_6 (V1 m ρ) c))

theorem v3_v6_1 : V3 m ρ c main_v6_1 = LDof (V1 m ρ) c :=
  (W3_of m ρ c main_v6_1 (by decide)).trans ((W2_arr m ρ c 7).trans (arr0_7 (V1 m ρ) c))

theorem v3_v6_2 : V3 m ρ c main_v6_2 = fun i : (⟨2, ![2448, 128]⟩ : Shape).Idx => laneMax (LTof (V1 m ρ) c) (i 0) 250 (i 1).val :=
  (W3_of m ρ c main_v6_2 (by decide)).trans ((W2_arr m ρ c 8).trans (arr0_8 (V1 m ρ) c))

theorem v3_v6_3 : V3 m ρ c main_v6_3 = fun i : (⟨2, ![2176, 128]⟩ : Shape).Idx => laneMax (LDof (V1 m ρ) c) (i 0) 250 (i 1).val :=
  (W3_of m ρ c main_v6_3 (by decide)).trans ((W2_arr m ρ c 9).trans (arr0_9 (V1 m ρ) c))

/-- The target distribution of a row is the softmax of its logits. -/
theorem rowT_eq (R : Fin 2448) : rowT (V3 m ρ) c R = smx fun v => LTof (V1 m ρ) c (ix2 R v) := by
  unfold rowT smx
  refine congrArg nrm (funext fun v => ?_)
  unfold eT expRow
  rw [v3_v6_0, v3_v6_2]
  exact congrArg (fun z : EReal => Ideal.exp (LTof (V1 m ρ) c (ix2 R v) - z)) (sup_laneMax (LTof (V1 m ρ) c) R)

/-- The draft distribution of a row is the softmax of its logits times the row's scale, a nonnegative finite one. -/
theorem rowD_eq (R : Fin 2176) (h : EReal) (hh : m ((c.tc : Thread nD τ).loc main_arg4) (ix2 R (0 : Fin 128)) = h)
    (h0 : 0 ≤ h) (h1 : h ≠ ⊤) :
    rowD (V3 m ρ) c R = smx fun v => LDof (V1 m ρ) c (ix2 R v) * h := by
  unfold rowD smx
  refine congrArg nrm (funext fun v => ?_)
  rw [← expRow_scale (fun v => LDof (V1 m ρ) c (ix2 R v)) h h0 h1 v]
  unfold eD
  rw [v3_v6_1, v3_v6_3]
  refine congrArg₂ (fun y z : EReal => Ideal.exp ((LDof (V1 m ρ) c (ix2 R v) - y) * z)) (sup_laneMax (LDof (V1 m ρ) c) R) ?_
  exact (congrFun (W3_args m ρ c main_arg4 (by decide)) (ix2 R (0 : Fin 128))).trans hh

/-- The third call finds the target rows the second found. -/
theorem rowT_v4 (R : Fin 2448) : rowT (V4 m ρ) c R = rowT (V3 m ρ) c R := by
  have h0 : V4 m ρ c main_v6_0 = V3 m ρ c main_v6_0 := W4_of m ρ c main_v6_0 (by decide)
  have h2 : V4 m ρ c main_v6_2 = V3 m ρ c main_v6_2 := W4_of m ρ c main_v6_2 (by decide)
  unfold rowT
  rw [h0, h2]

/-- The residual distributions. -/
theorem w6_v11_apply (b : Fin 272) (s : Fin 8) (v : Fin 32000) :
    W6 m ρ c (Proc.devRef .tc main_v11) (ix3 b s v)
      = resid (rowT (V3 m ρ) c (up (rowOf b s))) (rowD (V3 m ρ) c (rowOf b s)) v := by
  have h : W6 m ρ c (Proc.devRef .tc main_v11)
      = shapeCast S272x8x32000 (W5 m ρ c (Proc.devRef .tc main_v9_0)) shapeCasts_S2176x32000_S272x8x32000 := by
    simp only [W6, hostOps3]
    after_results <;> rfl
  rw [h, W5_of m ρ c main_v9_0 (by decide), (W4_arr m ρ c 7).trans (arr1_7 (V3 m ρ) c)]
  refine (shapeCast_apply _ _ _ (ix2 (rowOf b s) v) ?_).trans rfl
  rw [Shape.rowMajor_val_two, Shape.rowMajor_val_three]
  rfl

/-- The logarithms of the mass. -/
theorem w6_v12_apply (b : Fin 272) (s : Fin 8) :
    W6 m ρ c (Proc.devRef .tc main_v12) (ix2 b s)
      = Ideal.log (mass (rowT (V3 m ρ) c (up (rowOf b s))) (rowD (V3 m ρ) c (rowOf b s))) := by
  have h : W6 m ρ c (Proc.devRef .tc main_v12)
      = shapeCast S272x8 (W5 m ρ c (Proc.devRef .tc main_v9_1)) shapeCasts_S2176x1_S272x8 := by
    simp only [W6, hostOps3]
    after_results <;> rfl
  rw [h, W5_of m ρ c main_v9_1 (by decide), (W4_arr m ρ c 8).trans (arr1_8 (V3 m ρ) c)]
  exact (uncol_apply (e := .f32) _ _ b s).trans rfl

/-- The acceptance ratios. -/
theorem w6_v13_apply (b : Fin 272) (s : Fin 8) :
    W6 m ρ c (Proc.devRef .tc main_v13) (ix2 b s)
      = ratio (m ((c.tc : Thread nD τ).loc main_arg7) (ix2 b s)) (rowT (V3 m ρ) c (up (rowOf b s))) (rowD (V3 m ρ) c (rowOf b s)) := by
  have h : W6 m ρ c (Proc.devRef .tc main_v13)
      = shapeCast S272x8 (W5 m ρ c (Proc.devRef .tc main_v9_2)) shapeCasts_S2176x1_S272x8 := by
    simp only [W6, hostOps3]
    after_results <;> rfl
  rw [h, W5_of m ρ c main_v9_2 (by decide), (W4_arr m ρ c 9).trans (arr1_9 (V3 m ρ) c), ← w3_v7_apply m ρ c b s]
  exact (uncol_apply (e := .f32) _ _ b s).trans rfl

/-- The margins. -/
theorem w6_v14_apply (b : Fin 272) (s : Fin 8) :
    W6 m ρ c (Proc.devRef .tc main_v14) (ix2 b s)
      = marginOf (m ((c.tc : Thread nD τ).loc main_arg8) (ix2 b s))
        (ratio (m ((c.tc : Thread nD τ).loc main_arg7) (ix2 b s)) (rowT (V3 m ρ) c (up (rowOf b s))) (rowD (V3 m ρ) c (rowOf b s))) := by
  have h : W6 m ρ c (Proc.devRef .tc main_v14)
      = shapeCast S272x8 (W5 m ρ c (Proc.devRef .tc main_v9_3)) shapeCasts_S2176x1_S272x8 := by
    simp only [W6, hostOps3]
    after_results <;> rfl
  rw [h, W5_of m ρ c main_v9_3 (by decide), (W4_arr m ρ c 10).trans (arr1_10 (V3 m ρ) c), ← w3_v7_apply m ρ c b s,
    ← w3_v8_apply m ρ c b s]
  exact (uncol_apply (e := .f32) _ _ b s).trans rfl

/-- The bonus distributions. -/
theorem w6_v10_apply (b : Fin 272) (v : Fin 32000) :
    W6 m ρ c (Proc.devRef .tc main_v10) (ix2 b v) = rowT (V3 m ρ) c (bonusRow b) v := by
  rw [W6_of m ρ c main_v10 (by decide), (W5_arr m ρ c 2).trans (arr2_2 (V4 m ρ) c)]
  exact congrFun (rowT_v4 m ρ c (bonusRow b)) v

end Cert.VerifyIdeal.Gen
-- ==== Proof.RefLogits.lean ====
module

public import proofs.«01_k».proof.Proof.Spec
public import proofs.«01_k».proof.Proof.Gen.ReferenceIdeal.Read
public import Idealize.ShloMosaic.Lib.KernelVsHost
public import Idealize.ShloMosaic.Lib.TwoAxisContraction

@[expose] public section

/-!
What the reference computes, at an index: each result of a row is the mathematics of `Spec` on the row of logits.
-/

set_option maxRecDepth 16384

noncomputable section

namespace Cert.ReferenceIdeal.Read

open Idealize.ShloMosaic
open Idealize.ShloMosaic.TcCoe Idealize.ShloMosaic.Tactic Idealize.ShloMosaic.ValueIdx
open Idealize.SL
open Cert.Verification
open Cert.ReferenceIdeal Cert.ReferenceIdeal.Gen

variable (x0 : S272x9x4096.Idx → EReal) (x1 : S2048x32000.Idx → BitVec 8) (x2 : S32x32000.Idx → EReal)
  (x6 : S32000.Idx → EReal) (x7 : S272x8.Idx → BitVec 32) (x8 : S272x8.Idx → EReal)
  (r0 : S2176x32000.Idx → EReal) (e0 : S272x8.Idx → EReal)

/-- The target logits of a position. -/
def tRow (b : Fin 272) (s : Fin 9) (v : Fin 32000) : EReal :=
  ∑ k : Fin 4096, x0 (ix3 b s k)
    * (nibE (x1 (ix2 (⟨k.val / 2, by omega⟩ : Fin 2048) v)) (k.val % 2) * x2 (ix2 (⟨k.val / 128, by omega⟩ : Fin 32) v))

/-- The draft logits of a position. -/
def dRow (b : Fin 272) (s : Fin 8) (v : Fin 32000) : EReal :=
  r0 (ix2 (⟨b.val * 8 + s.val, by omega⟩ : Fin 2176) v) * e0 (ix2 b s) * x6 (ix1 v)

theorem byte_apply (g : Fin 32) (k : Fin 64) (v : Fin 32000) :
    val_main_v12 (F := Ideal) x1 (ix3 g k v) = (x1 (ix2 (⟨g.val * 64 + k.val, by omega⟩ : Fin 2048) v)).setWidth 32 := by
  rw [val_main_v12_apply, val_main_v11_apply]
  refine congrArg (fun j => (x1 j).setWidth 32) ?_
  funext a
  match a with
  | ⟨0, _⟩ => exact Fin.ext (by show ((g.val * 64 + k.val) * 32000 + v.val) / 32000 = g.val * 64 + k.val; omega)
  | ⟨1, _⟩ => exact Fin.ext (by show ((g.val * 64 + k.val) * 32000 + v.val) % 32000 = v.val; omega)

theorem scale_apply (g : Fin 32) (k : Fin 64) (v : Fin 32000) :
    val_main_v24 (F := Ideal) x2 (ix3 g k v) = x2 (ix2 g v) := by
  rw [val_main_v24_apply, val_main_v14_apply, val_main_v13_apply]
  show x2 _ = _
  refine congrArg x2 ?_
  funext a
  match a with
  | ⟨0, _⟩ => rfl
  | ⟨1, _⟩ => rfl

/-- The low nibbles' weights. -/
theorem lo_apply (g : Fin 32) (k : Fin 64) (v : Fin 32000) :
    val_main_v25 (F := Ideal) x1 x2 (ix3 g k v) = nibE (x1 (ix2 (⟨g.val * 64 + k.val, by omega⟩ : Fin 2048) v)) 0 * x2 (ix2 g v) := by
  rw [val_main_v25_apply, scale_apply, val_main_v23_apply, val_main_v22_apply, val_main_v21_apply, val_main_v19_apply,
    val_main_v18_apply, val_main_v16_apply, byte_apply, val_main_v20_apply, val_main_v17_apply, val_main_v15_apply]
  exact congrArg (fun n : ℤ => ((n : ℝ) : EReal) * x2 (ix2 g v)) (decode_ops _).1

/-- The high nibbles' weights. -/
theorem hi_apply (g : Fin 32) (k : Fin 64) (v : Fin 32000) :
    val_main_v36 (F := Ideal) x1 x2 (ix3 g k v) = nibE (x1 (ix2 (⟨g.val * 64 + k.val, by omega⟩ : Fin 2048) v)) 1 * x2 (ix2 g v) := by
  rw [val_main_v36_apply, show val_main_v35 (F := Ideal) x2 (ix3 g k v) = x2 (ix2 g v) from scale_apply x2 g k v, val_main_v34_apply, val_main_v33_apply, val_main_v32_apply, val_main_v30_apply,
    val_main_v29_apply, val_main_v27_apply, byte_apply, val_main_v31_apply, val_main_v28_apply, val_main_v26_apply]
  exact congrArg (fun n : ℤ => ((n : ℝ) : EReal) * x2 (ix2 g v)) (decode_ops _).2

/-- The even activations. -/
theorem even_apply (b : Fin 272) (s : Fin 9) (g : Fin 32) (k : Fin 64) :
    val_main_v39 (F := Ideal) x0 (ix4 b s g k) = x0 (ix3 b s (⟨g.val * 128 + 2 * k.val, by omega⟩ : Fin 4096)) := by
  rw [val_main_v39_apply, val_main_v38_apply, val_main_v37_apply]
  refine congrArg x0 ?_
  funext a
  have hb := b.isLt
  have hs := s.isLt
  have hg := g.isLt
  have hk := k.isLt
  match a with
  | ⟨0, _⟩ => exact Fin.ext (by show ((((((((b.val * 9 + s.val) * 32 + g.val) * 64 + k.val) / 18432) * 9 + (((b.val * 9 + s.val) * 32 + g.val) * 64 + k.val) / 2048 % 9) * 32 + (((b.val * 9 + s.val) * 32 + g.val) * 64 + k.val) / 64 % 32) * 64 + (((b.val * 9 + s.val) * 32 + g.val) * 64 + k.val) / 1 % 64) * 2 + 0) / 36864 = b.val; omega)
  | ⟨1, _⟩ => exact Fin.ext (by show ((((((((b.val * 9 + s.val) * 32 + g.val) * 64 + k.val) / 18432) * 9 + (((b.val * 9 + s.val) * 32 + g.val) * 64 + k.val) / 2048 % 9) * 32 + (((b.val * 9 + s.val) * 32 + g.val) * 64 + k.val) / 64 % 32) * 64 + (((b.val * 9 + s.val) * 32 + g.val) * 64 + k.val) / 1 % 64) * 2 + 0) / 4096 % 9 = s.val; omega)
  | ⟨2, _⟩ => exact Fin.ext (by show ((((((((b.val * 9 + s.val) * 32 + g.val) * 64 + k.val) / 18432) * 9 + (((b.val * 9 + s.val) * 32 + g.val) * 64 + k.val) / 2048 % 9) * 32 + (((b.val * 9 + s.val) * 32 + g.val) * 64 + k.val) / 64 % 32) * 64 + (((b.val * 9 + s.val) * 32 + g.val) * 64 + k.val) / 1 % 64) * 2 + 0) % 4096 = g.val * 128 + 2 * k.val; omega)

/-- The odd activations. -/
theorem odd_apply (b : Fin 272) (s : Fin 9) (g : Fin 32) (k : Fin 64) :
    val_main_v42 (F := Ideal) x0 (ix4 b s g k) = x0 (ix3 b s (⟨g.val * 128 + (2 * k.val + 1), by omega⟩ : Fin 4096)) := by
  rw [val_main_v42_apply, val_main_v41_apply, val_main_v37_apply]
  refine congrArg x0 ?_
  funext a
  have hb := b.isLt
  have hs := s.isLt
  have hg := g.isLt
  have hk := k.isLt
  match a with
  | ⟨0, _⟩ => exact Fin.ext (by show ((((((((b.val * 9 + s.val) * 32 + g.val) * 64 + k.val) / 18432) * 9 + (((b.val * 9 + s.val) * 32 + g.val) * 64 + k.val) / 2048 % 9) * 32 + (((b.val * 9 + s.val) * 32 + g.val) * 64 + k.val) / 64 % 32) * 64 + (((b.val * 9 + s.val) * 32 + g.val) * 64 + k.val) / 1 % 64) * 2 + (1 + 0)) / 36864 = b.val; omega)
  | ⟨1, _⟩ => exact Fin.ext (by show ((((((((b.val * 9 + s.val) * 32 + g.val) * 64 + k.val) / 18432) * 9 + (((b.val * 9 + s.val) * 32 + g.val) * 64 + k.val) / 2048 % 9) * 32 + (((b.val * 9 + s.val) * 32 + g.val) * 64 + k.val) / 64 % 32) * 64 + (((b.val * 9 + s.val) * 32 + g.val) * 64 + k.val) / 1 % 64) * 2 + (1 + 0)) / 4096 % 9 = s.val; omega)
  | ⟨2, _⟩ => exact Fin.ext (by show ((((((((b.val * 9 + s.val) * 32 + g.val) * 64 + k.val) / 18432) * 9 + (((b.val * 9 + s.val) * 32 + g.val) * 64 + k.val) / 2048 % 9) * 32 + (((b.val * 9 + s.val) * 32 + g.val) * 64 + k.val) / 64 % 32) * 64 + (((b.val * 9 + s.val) * 32 + g.val) * 64 + k.val) / 1 % 64) * 2 + (1 + 0)) % 4096 = g.val * 128 + (2 * k.val + 1); omega)

/-- The product over groups and pairs, as a double sum. -/
theorem dot_apply (A : FVec Ideal S272x9x32x64 .bf16) (B : FVec Ideal S32x64x32000 .bf16) (b : Fin 272) (s : Fin 9) (v : Fin 32000) :
    Host.dotGeneral dot_S272x9x32x64_S32x64x32000_S272x9x32000_23_01_01_2_n_n none A B (ix3 b s v)
      = ∑ g : Fin 32, ∑ k : Fin 64, (A (ix4 b s g k) * B (ix3 g k v) : EReal) := by
  show FloatOps.dotGeneral _ none _ A B (ix3 b s v) = _
  rw [Ideal.dotGeneral_apply, sum_contr2 dot_S272x9x32x64_S32x64x32000_S272x9x32000_23_01_01_2_n_n 32 64 rfl rfl rfl]
  refine Finset.sum_congr rfl fun g _ => Finset.sum_congr rfl fun k _ => ?_
  refine congrArg₂ (fun x y : EReal => x * y) (congrArg A ?_) (congrArg B ?_)
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl

/-- The reference's target logits. -/
theorem tRow_apply (b : Fin 272) (s : Fin 9) (v : Fin 32000) :
    val_main_v44 (F := Ideal) x0 x1 x2 (ix3 b s v) = tRow x0 x1 x2 b s v := by
  rw [val_main_v44_apply]
  unfold val_main_v40 val_main_v43 tRow
  rw [dot_apply, dot_apply, sum_pairs]
  refine congrArg₂ (fun x y : EReal => x + y) ?_ ?_
  · refine Finset.sum_congr rfl fun g _ => Finset.sum_congr rfl fun k _ => ?_
    rw [even_apply, lo_apply]
    dsimp only
    have h1 : (g.val * 128 + 2 * k.val) / 2 = g.val * 64 + k.val := by omega
    have h2 : (g.val * 128 + 2 * k.val) % 2 = 0 := by omega
    have h3 : (⟨(g.val * 128 + 2 * k.val) / 128, by omega⟩ : Fin 32) = g := Fin.ext (by show (g.val * 128 + 2 * k.val) / 128 = g.val; omega)
    simp only [h1, h2, h3]
  · refine Finset.sum_congr rfl fun g _ => Finset.sum_congr rfl fun k _ => ?_
    rw [odd_apply, hi_apply]
    dsimp only
    have h1 : (g.val * 128 + (2 * k.val + 1)) / 2 = g.val * 64 + k.val := by omega
    have h2 : (g.val * 128 + (2 * k.val + 1)) % 2 = 1 := by omega
    have h3 : (⟨(g.val * 128 + (2 * k.val + 1)) / 128, by omega⟩ : Fin 32) = g := Fin.ext (by show (g.val * 128 + (2 * k.val + 1)) / 128 = g.val; omega)
    simp only [h1, h2, h3]

/-- The reference's draft logits. -/
theorem dRow_apply (b : Fin 272) (s : Fin 8) (v : Fin 32000) :
    val_main_v10 (F := Ideal) x6 r0 e0 (ix3 b s v) = dRow x6 r0 e0 b s v := by
  rw [val_main_v10_apply, val_main_v9_apply, val_main_v8_apply, val_main_v7_apply, val_main_v6_apply, val_main_v5_apply, val_main_v4_apply]
  unfold dRow
  refine congrArg₂ (fun x y : EReal => x * y) (congrArg₂ (fun x y : EReal => x * y) (congrArg r0 ?_) (congrArg e0 ?_)) (congrArg x6 ?_)
  · funext a
    match a with
    | ⟨0, _⟩ => exact Fin.ext (by show ((b.val * 8 + s.val) * 32000 + v.val) / 32000 = b.val * 8 + s.val; omega)
    | ⟨1, _⟩ => exact Fin.ext (by show ((b.val * 8 + s.val) * 32000 + v.val) % 32000 = v.val; omega)
  · funext a
    match a with
    | ⟨0, _⟩ => rfl
    | ⟨1, _⟩ => rfl
  · funext a
    match a with
    | ⟨0, _⟩ => rfl

end Cert.ReferenceIdeal.Read
-- ==== Proof.RefValue.lean ====
module

public import proofs.«01_k».proof.Proof.RefLogits

@[expose] public section

/-!
The reference's results at an index: each is the mathematics of `Spec` on the softmax of the position's target and draft
logits.
-/

set_option maxRecDepth 16384

noncomputable section

namespace Cert.ReferenceIdeal.Read

open Idealize.ShloMosaic
open Idealize.ShloMosaic.TcCoe Idealize.ShloMosaic.Tactic Idealize.ShloMosaic.ValueIdx
open Idealize.SL
open Cert.Verification
open Cert.ReferenceIdeal Cert.ReferenceIdeal.Gen

variable (x0 : S272x9x4096.Idx → EReal) (x1 : S2048x32000.Idx → BitVec 8) (x2 : S32x32000.Idx → EReal)
  (x6 : S32000.Idx → EReal) (x7 : S272x8.Idx → BitVec 32) (x8 : S272x8.Idx → EReal)
  (r0 : S2176x32000.Idx → EReal) (e0 : S272x8.Idx → EReal)

theorem reduces8 : S272x8x32000.Reduces [2] S272x8 := by decide
theorem reduces9 : S272x9x32000.Reduces [2] S272x9 := by decide

/-- The largest entry of a draft row. -/
theorem max8_apply (x : FVec Ideal S272x8x32000 .f32) (b : Fin 272) (s : Fin 8) :
    Host.reduce FloatOps.maximumf x (constant (F := Ideal) S_ .f32 0xFF800000#32) reducesTo_S272x8x32000_S272x8_d2 h_S_ (ix2 b s)
      = Finset.univ.sup fun v : Fin 32000 => x (ix3 b s v) := by
  refine (congrFun (hostReduce_maximumf_eq_multiReduction x 0xFF800000#32 _ _ reduces8 (.inl rfl) rfl) _).trans
    ((Ideal.multiReduction_maximumf_single _ _ _ _ _ _).trans ?_)
  show Finset.univ.fold max (Ideal.ofBits .f32 0xFF800000#32) _ = _
  rw [ofBits_neg_inf]
  refine congrArg (fun f : Fin 32000 → EReal => (Finset.univ : Finset (Fin 32000)).fold max ⊥ f) (funext fun l => congrArg x ?_)
  funext a
  match a with
  | ⟨0, _⟩ => rfl
  | ⟨1, _⟩ => rfl
  | ⟨2, _⟩ => rfl

/-- The largest entry of a target row. -/
theorem max9_apply (x : FVec Ideal S272x9x32000 .f32) (b : Fin 272) (s : Fin 9) :
    Host.reduce FloatOps.maximumf x (constant (F := Ideal) S_ .f32 0xFF800000#32) reducesTo_S272x9x32000_S272x9_d2 h_S_ (ix2 b s)
      = Finset.univ.sup fun v : Fin 32000 => x (ix3 b s v) := by
  refine (congrFun (hostReduce_maximumf_eq_multiReduction x 0xFF800000#32 _ _ reduces9 (.inl rfl) rfl) _).trans
    ((Ideal.multiReduction_maximumf_single _ _ _ _ _ _).trans ?_)
  show Finset.univ.fold max (Ideal.ofBits .f32 0xFF800000#32) _ = _
  rw [ofBits_neg_inf]
  refine congrArg (fun f : Fin 32000 → EReal => (Finset.univ : Finset (Fin 32000)).fold max ⊥ f) (funext fun l => congrArg x ?_)
  funext a
  match a with
  | ⟨0, _⟩ => rfl
  | ⟨1, _⟩ => rfl
  | ⟨2, _⟩ => rfl

theorem ix3_of {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext k
  match k with
  | ⟨0, _⟩ => exact Fin.ext h0
  | ⟨1, _⟩ => exact Fin.ext h1
  | ⟨2, _⟩ => exact Fin.ext h2

theorem ix2_of {n0 n1 : ℕ} (i : (⟨2, ![n0, n1]⟩ : Shape).Idx) (a : Fin n0) (b : Fin n1)
    (h0 : (i 0).val = a.val) (h1 : (i 1).val = b.val) : i = ix2 a b := by
  funext k
  match k with
  | ⟨0, _⟩ => exact Fin.ext h0
  | ⟨1, _⟩ => exact Fin.ext h1

theorem zero_cst (j : S_.Idx) : constant (F := Ideal) S_ .f32 0x00000000#32 j = (0 : EReal) := Ideal.ofBits_zero_f32

/-- The draft exponentials. -/
theorem expD_apply (b : Fin 272) (s : Fin 8) (v : Fin 32000) :
    val_main_v49 (F := Ideal) x6 r0 e0 (ix3 b s v) = expRow (dRow x6 r0 e0 b s) v := by
  rw [val_main_v49_apply, val_main_v48_apply, val_main_v47_apply, val_main_v46_apply,
    ix2_of (idx_main_v46 (idx_main_v47 (ix3 b s v))) b s rfl rfl]
  unfold val_main_v45 expRow
  rw [dRow_apply]
  refine congrArg (fun z : EReal => Ideal.exp (dRow x6 r0 e0 b s v - z)) ?_
  exact (max8_apply _ b s).trans (congrArg (Finset.univ : Finset (Fin 32000)).sup (funext fun u => dRow_apply x6 r0 e0 b s u))

/-- The draft distribution. -/
theorem pD_apply (b : Fin 272) (s : Fin 8) (v : Fin 32000) :
    val_main_v53 (F := Ideal) x6 r0 e0 (ix3 b s v) = smx (dRow x6 r0 e0 b s) v := by
  rw [val_main_v53_apply, val_main_v52_apply, val_main_v51_apply,
    ix2_of (idx_main_v51 (idx_main_v52 (ix3 b s v))) b s rfl rfl, val_main_v50_apply, expD_apply]
  unfold val_main_cst_5 smx nrm
  rw [zero_cst, zero_add]
  refine congrArg (fun z : EReal => Ideal.div (expRow (dRow x6 r0 e0 b s) v) z) (Finset.sum_congr rfl fun k _ => ?_)
  rw [ix3_of (idx_main_v50 (ix2 b s) k) b s k rfl rfl rfl, expD_apply]

/-- The target exponentials. -/
theorem expT_apply (b : Fin 272) (s : Fin 9) (v : Fin 32000) :
    val_main_v58 (F := Ideal) x0 x1 x2 (ix3 b s v) = expRow (tRow x0 x1 x2 b s) v := by
  rw [val_main_v58_apply, val_main_v57_apply, val_main_v56_apply, val_main_v55_apply,
    ix2_of (idx_main_v55 (idx_main_v56 (ix3 b s v))) b s rfl rfl]
  unfold val_main_v54 expRow
  rw [tRow_apply]
  refine congrArg (fun z : EReal => Ideal.exp (tRow x0 x1 x2 b s v - z)) ?_
  exact (max9_apply _ b s).trans (congrArg (Finset.univ : Finset (Fin 32000)).sup (funext fun u => tRow_apply x0 x1 x2 b s u))

/-- The target distribution. -/
theorem pT_apply (b : Fin 272) (s : Fin 9) (v : Fin 32000) :
    val_main_v62 (F := Ideal) x0 x1 x2 (ix3 b s v) = smx (tRow x0 x1 x2 b s) v := by
  rw [val_main_v62_apply, val_main_v61_apply, val_main_v60_apply,
    ix2_of (idx_main_v60 (idx_main_v61 (ix3 b s v))) b s rfl rfl, val_main_v59_apply, expT_apply]
  unfold val_main_cst_7 smx nrm
  rw [zero_cst, zero_add]
  refine congrArg (fun z : EReal => Ideal.div (expRow (tRow x0 x1 x2 b s) v) z) (Finset.sum_congr rfl fun k _ => ?_)
  rw [ix3_of (idx_main_v59 (ix2 b s) k) b s k rfl rfl rfl, expT_apply]

/-- A draft position among the target's. -/
def pos (s : Fin 8) : Fin 9 := ⟨s.val, by omega⟩

/-- The target distribution at a draft position. -/
theorem pT8_apply (b : Fin 272) (s : Fin 8) (v : Fin 32000) :
    val_main_v63 (F := Ideal) x0 x1 x2 (ix3 b s v) = smx (tRow x0 x1 x2 b (pos s)) v := by
  rw [val_main_v63_apply, ix3_of (idx_main_v63 (ix3 b s v)) b (pos s) v rfl rfl rfl, pT_apply]

/-- Where a token sits. -/
theorem hit_apply (b : Fin 272) (s : Fin 8) (v : Fin 32000) :
    val_main_v67 (F := Ideal) x7 (ix3 b s v) = IntOp.cmpi .eq (BitVec.ofNat 32 v.val) (x7 (ix2 b s)) := by
  rw [val_main_v67_apply, val_main_v64_apply, val_main_v66_apply, val_main_v65_apply,
    ix2_of (idx_main_v65 (idx_main_v66 (ix3 b s v))) b s rfl rfl]

/-- The target's probability of the token. -/
theorem hitT_apply (b : Fin 272) (s : Fin 8) :
    val_main_v69 (F := Ideal) x0 x1 x2 x7 (ix2 b s) = hitSum (x7 (ix2 b s)) (smx (tRow x0 x1 x2 b (pos s))) := by
  rw [val_main_v69_apply]
  unfold val_main_cst_9 hitSum
  rw [zero_cst, zero_add]
  refine Finset.sum_congr rfl fun v _ => ?_
  rw [ix3_of (idx_main_v69 (ix2 b s) v) b s v rfl rfl rfl, val_main_v68_apply, hit_apply, pT8_apply, val_main_call0_v1_apply]
  exact congrArg (Scalar.select _ _) Ideal.ofBits_zero_f32

/-- The draft's probability of the token. -/
theorem hitD_apply (b : Fin 272) (s : Fin 8) :
    val_main_v71 (F := Ideal) x6 x7 r0 e0 (ix2 b s) = hitSum (x7 (ix2 b s)) (smx (dRow x6 r0 e0 b s)) := by
  rw [val_main_v71_apply]
  unfold val_main_cst_11 hitSum
  rw [zero_cst, zero_add]
  refine Finset.sum_congr rfl fun v _ => ?_
  rw [ix3_of (idx_main_v71 (ix2 b s) v) b s v rfl rfl rfl, val_main_v70_apply, hit_apply, pD_apply, val_main_call1_v1_apply]
  exact congrArg (Scalar.select _ _) Ideal.ofBits_zero_f32

/-- A word's value, whatever it is, against a quotient: the smaller of the two. -/
theorem min_div_apply (w : BitVec 32) (A B : FVec Ideal S272x8 .f32) (i : S272x8.Idx) :
    minimumf (broadcastInDim S272x8 ![] bcast_S_S272x8 (constant (F := Ideal) S_ .f32 w)) (Host.divf A B) i
      = min (Ideal.ofBits .f32 w) (Ideal.div (A i) (B i)) := rfl

/-- The acceptance ratios. -/
theorem ratio_apply (b : Fin 272) (s : Fin 8) :
    val_main_v74 (F := Ideal) x0 x1 x2 x6 x7 r0 e0 (ix2 b s)
      = ratio (x7 (ix2 b s)) (smx (tRow x0 x1 x2 b (pos s))) (smx (dRow x6 r0 e0 b s)) := by
  unfold val_main_v74 val_main_v73 val_main_v72 val_main_cst_12 ratio
  refine (min_div_apply _ _ _ _).trans ?_
  generalize Ideal.ofBits .f32 0x3F800000#32 = one
  rw [hitT_apply, hitD_apply]

/-- The margins. -/
theorem margin_apply (b : Fin 272) (s : Fin 8) :
    val_main_v75 (F := Ideal) x0 x1 x2 x6 x7 x8 r0 e0 (ix2 b s)
      = x8 (ix2 b s) - ratio (x7 (ix2 b s)) (smx (tRow x0 x1 x2 b (pos s))) (smx (dRow x6 r0 e0 b s)) := by
  rw [val_main_v75_apply, ratio_apply]
  rfl

/-- The positive part of the difference. -/
theorem excess_apply (b : Fin 272) (s : Fin 8) (v : Fin 32000) :
    val_main_v78 (F := Ideal) x0 x1 x2 x6 r0 e0 (ix3 b s v)
      = excess (smx (tRow x0 x1 x2 b (pos s))) (smx (dRow x6 r0 e0 b s)) v := by
  rw [val_main_v78_apply, val_main_v76_apply, pT8_apply, pD_apply, val_main_v77_apply]
  exact congrArg (max _) Ideal.ofBits_zero_f32

/-- Its mass. -/
theorem mass_apply (b : Fin 272) (s : Fin 8) :
    val_main_v79 (F := Ideal) x0 x1 x2 x6 r0 e0 (ix2 b s)
      = mass (smx (tRow x0 x1 x2 b (pos s))) (smx (dRow x6 r0 e0 b s)) := by
  rw [val_main_v79_apply]
  unfold val_main_cst_14 mass
  rw [zero_cst, zero_add]
  refine Finset.sum_congr rfl fun v _ => ?_
  rw [ix3_of (idx_main_v79 (ix2 b s) v) b s v rfl rfl rfl, excess_apply]

/-- The residual distributions. -/
theorem resid_apply (b : Fin 272) (s : Fin 8) (v : Fin 32000) :
    val_main_v83 (F := Ideal) x0 x1 x2 x6 r0 e0 (ix3 b s v)
      = resid (smx (tRow x0 x1 x2 b (pos s))) (smx (dRow x6 r0 e0 b s)) v := by
  rw [val_main_v83_apply, val_main_v82_apply, excess_apply, val_main_v81_apply, val_main_v80_apply,
    ix2_of (idx_main_v80 (idx_main_v81 (ix3 b s v))) b s rfl rfl, mass_apply]
  unfold resid nrm mass
  generalize excess (smx (tRow x0 x1 x2 b (pos s))) (smx (dRow x6 r0 e0 b s)) v = a
  generalize (∑ u, excess (smx (tRow x0 x1 x2 b (pos s))) (smx (dRow x6 r0 e0 b s)) u) = q
  rfl

/-- The logarithms of the mass. -/
theorem logMass_apply (b : Fin 272) (s : Fin 8) :
    val_main_v84 (F := Ideal) x0 x1 x2 x6 r0 e0 (ix2 b s)
      = Ideal.log (mass (smx (tRow x0 x1 x2 b (pos s))) (smx (dRow x6 r0 e0 b s))) := by
  rw [val_main_v84_apply, mass_apply]
  generalize mass (smx (tRow x0 x1 x2 b (pos s))) (smx (dRow x6 r0 e0 b s)) = q
  rfl

/-- The bonus distributions. -/
theorem bonus_apply (b : Fin 272) (v : Fin 32000) :
    val_main_v87 (F := Ideal) x0 x1 x2 (ix2 b v) = smx (tRow x0 x1 x2 b 8) v := by
  rw [val_main_v87_apply, val_main_v86_apply, val_main_v85_apply]
  rw [ix3_of (idx_main_v85 (idx_main_v86 (ix2 b v))) b 8 v
    (by show (b.val * 32000 + v.val) / 32000 = b.val; omega) (by rfl)
    (by show (b.val * 32000 + v.val) % 32000 = v.val; omega), pT_apply]
  generalize smx (tRow x0 x1 x2 b 8) v = q
  rfl

end Cert.ReferenceIdeal.Read
-- ==== Proof.RefProduct.lean ====
module

public import proofs.«01_k».proof.Proof.RefValue
public import proofs.«01_k».proof.Proof.Gen.ReferenceIdeal.Run
public import Idealize.ShloMosaic.Lib.Pipeline.ValueKit
public import Idealize.ShloMosaic.Lib.MatmulPlain
public import Idealize.ShloMosaic.Lib.Tactic

@[expose] public section

/-!
The product of codes that the reference takes in its one region, and the scales it reads off the codes' scale array.
-/

set_option maxRecDepth 16384

noncomputable section

namespace Cert.ReferenceIdeal.Read

open Idealize.ShloMosaic hiding ix1 ix2 ix3 eq_ix1 eq_ix2 eq_ix3
open Idealize.ShloMosaic.TcCoe Idealize.ShloMosaic.Tactic Idealize.ShloMosaic.ValueIdx
open Idealize.SL
open Idealize.ShloMosaic.Pipeline (Dat Cfg Window)
open Cert.Verification
open Cert.ReferenceIdeal Cert.ReferenceIdeal.Gen

variable (m : (ℓ : Loc nD τ sig) → Buf (Elt Ideal) ℓ) (c : Dev nD)

/-- The product of the codes. -/
def prodOf (Q : S2176x1536.Idx → EReal) (W : S1536x32000.Idx → EReal) (i : S2176x32000.Idx) : EReal :=
  ∑ k : Fin 1536, Q (ix2 (i 0) k) * W (ix2 k (i 1))

theorem idx0_0 : ∀ t : Fin grid0.N, win0_0.index t = ![0, 0] := by decide +kernel
theorem idx0_1 : ∀ t : Fin grid0.N, win0_1.index t = ![0, 0] := by decide +kernel
theorem idx0_2 : ∀ t : Fin grid0.N, win0_2.index t = ![0, 0] := by decide +kernel

theorem blk0_0 (t : Fin cfg0.N) (r : Fin 2176) (k : Fin 1536) :
    iblk m c 0 t (ix2 r k) = m ((c.tc : Thread nD τ).loc main_arg3) (ix2 r k) := by
  refine Eq.trans ?_ (congrFun (V_main_arg3 m c) (ix2 r k))
  blk_ext [iblk, idx0_0 t]

theorem blk0_1 (t : Fin cfg0.N) (k : Fin 1536) (v : Fin 32000) :
    iblk m c 1 t (ix2 k v) = m ((c.tc : Thread nD τ).loc main_arg5) (ix2 k v) := by
  refine Eq.trans ?_ (congrFun (V_main_arg5 m c) (ix2 k v))
  blk_ext [iblk, idx0_1 t]

theorem off_zero : (![0, 0] : Fin 2 → ℕ) = fun _ => 0 := by
  funext a
  match a with
  | ⟨0, _⟩ => rfl
  | ⟨1, _⟩ => rfl

/-- The block the region leaves, at an index. -/
theorem out0_2_apply (x : Vec Ideal S2176x1536 .fp8e4m3) (w : Vec Ideal S1536x32000 .fp8e4m3) (r : Fin 2176) (v : Fin 32000) :
    out0_2 (F := Ideal) x w (ix2 r v) = ∑ k : Fin 1536, x (ix2 r k) * w (ix2 k v) := by
  unfold out0_2
  rw [View.canon_unit_zero off_zero, View.ld_unit_zero off_zero, View.ld_unit_zero off_zero]
  unfold k0_pay1
  refine (Ideal.matmul_plain_apply none _ _ _ r v).trans ?_
  show Ideal.ofBits .f32 0#32 + _ = _
  rw [Ideal.ofBits_zero_f32, zero_add]

/-- What the region leaves: the product of the codes. -/
theorem reg_eq : Value.reg_main_v3 m c
    = prodOf (m ((c.tc : Thread nD τ).loc main_arg3)) (m ((c.tc : Thread nD τ).loc main_arg5)) := by
  unfold Value.reg_main_v3
  refine (dats m 0 c).arrAt_eq_of_covers 2 _ (by decide +kernel) fun t hf y => ?_
  blk_simp
  rw [after0_2]
  idx_bounds y
  refine Eq.trans ?_ ((out0_2_apply (iblk m c 0 t) (iblk m c 1 t) (y 0) (y 1)).trans ?_)
  · exact congrArg _ (eq_ix2 _)
  · have e0 : (win0_2.blk t).view.emb y 0 = y 0 := Fin.ext (by blk_simp [idx0_2 t])
    have e1 : (win0_2.blk t).view.emb y 1 = y 1 := Fin.ext (by blk_simp [idx0_2 t])
    unfold prodOf
    rw [e0, e1]
    refine Finset.sum_congr rfl fun k _ => ?_
    exact congrArg₂ (fun a b : EReal => a * b) (blk0_0 m c t _ k) (blk0_1 m c t k _)

/-- The scales of the codes, a position each. -/
theorem scale_at (b : Fin 272) (s : Fin 8) :
    Value.exitV m c (Proc.devRef .tc main_v2) (ix2 b s)
      = m ((c.tc : Thread nD τ).loc main_arg4) (ix2 (⟨b.val * 8 + s.val, by omega⟩ : Fin 2176) (0 : Fin 128)) := by
  rw [Value.exit_main_v2]
  refine (shapeCast_apply _ _ _ (ix1 (⟨b.val * 8 + s.val, by omega⟩ : Fin 2176)) ?_).trans ?_
  · rw [Shape.rowMajor_val_one, Shape.rowMajor_val_two]
    rfl
  refine (shapeCast_apply _ _ _ (ix2 (⟨b.val * 8 + s.val, by omega⟩ : Fin 2176) (0 : Fin 1)) ?_).trans ?_
  · rw [Shape.rowMajor_val_one, Shape.rowMajor_val_two]
    show (b.val * 8 + s.val) * 1 + 0 = b.val * 8 + s.val
    omega
  refine extractStridedSlice_apply _ _ _ _ _ ?_
  intro a
  match a with
  | ⟨0, _⟩ => exact (Nat.zero_add _).symm
  | ⟨1, _⟩ => rfl

end Cert.ReferenceIdeal.Read
-- ==== Proof.Equation.lean ====
module

public import proofs.«01_k».proof.Proof.Host
public import proofs.«01_k».proof.Proof.RefProduct

@[expose] public section

/-!
The equation: from memories that agree on the arguments, with nonnegative finite scales, each of the five results of the
idealized kernel is the reference's.
-/

set_option maxRecDepth 16384

noncomputable section

namespace Cert.Equation

open Idealize.ShloMosaic hiding ix1 ix2 ix3 eq_ix1 eq_ix2 eq_ix3
open Idealize.ShloMosaic.TcCoe
open Idealize.ShloMosaic.ValueIdx
open Cert.Verification
open Cert.VerifyIdeal.Gen (rowT rowD rowOf up bonusRow LTof LDof V1 V3 W1 W6)
open Cert.ReferenceIdeal.Read (tRow dRow pos)

variable (m : (ℓ : Loc Cert.VerifyIdeal.nD Cert.VerifyIdeal.τ Cert.VerifyIdeal.sig) → Buf (Elt Ideal) ℓ)
  (ρ : Dev Cert.VerifyIdeal.nD → PrngReg)
  (c : Dev Cert.VerifyIdeal.nD)

/-- The reference's arguments, named by their content. -/
structure Args where
  x : Cert.ReferenceIdeal.S272x9x4096.Idx → EReal
  packed : Cert.ReferenceIdeal.S2048x32000.Idx → BitVec 8
  wt : Cert.ReferenceIdeal.S32x32000.Idx → EReal
  codes : Cert.ReferenceIdeal.S2176x1536.Idx → EReal
  scales : Cert.ReferenceIdeal.S2176x128.Idx → EReal
  wd : Cert.ReferenceIdeal.S1536x32000.Idx → EReal
  ws : Cert.ReferenceIdeal.S32000.Idx → EReal
  tok : Cert.ReferenceIdeal.S272x8.Idx → BitVec 32
  u : Cert.ReferenceIdeal.S272x8.Idx → EReal

/-- The arguments a memory of the kernel holds. -/
def argsOf : Args where
  x := m ((c.tc : Thread Cert.VerifyIdeal.nD Cert.VerifyIdeal.τ).loc Cert.VerifyIdeal.main_arg0)
  packed := m ((c.tc : Thread Cert.VerifyIdeal.nD Cert.VerifyIdeal.τ).loc Cert.VerifyIdeal.main_arg1)
  wt := m ((c.tc : Thread Cert.VerifyIdeal.nD Cert.VerifyIdeal.τ).loc Cert.VerifyIdeal.main_arg2)
  codes := m ((c.tc : Thread Cert.VerifyIdeal.nD Cert.VerifyIdeal.τ).loc Cert.VerifyIdeal.main_arg3)
  scales := m ((c.tc : Thread Cert.VerifyIdeal.nD Cert.VerifyIdeal.τ).loc Cert.VerifyIdeal.main_arg4)
  wd := m ((c.tc : Thread Cert.VerifyIdeal.nD Cert.VerifyIdeal.τ).loc Cert.VerifyIdeal.main_arg5)
  ws := m ((c.tc : Thread Cert.VerifyIdeal.nD Cert.VerifyIdeal.τ).loc Cert.VerifyIdeal.main_arg6)
  tok := m ((c.tc : Thread Cert.VerifyIdeal.nD Cert.VerifyIdeal.τ).loc Cert.VerifyIdeal.main_arg7)
  u := m ((c.tc : Thread Cert.VerifyIdeal.nD Cert.VerifyIdeal.τ).loc Cert.VerifyIdeal.main_arg8)

/-- A position's target logits, from the arguments. -/
def tL (A : Args) (b : Fin 272) (s : Fin 9) : Fin 32000 → EReal := tRow A.x A.packed A.wt b s

/-- The scales of the codes, a position each. -/
def scaleOf (A : Args) (i : Cert.ReferenceIdeal.S272x8.Idx) : EReal := A.scales (ix2 (rowOf (i 0) (i 1)) (0 : Fin 128))

/-- A position's draft logits, from the arguments. -/
def dL (A : Args) (b : Fin 272) (s : Fin 8) : Fin 32000 → EReal :=
  dRow A.ws (Cert.ReferenceIdeal.Read.prodOf A.codes A.wd) (scaleOf A) b s

/-- The kernel's target logits of a draft position. -/
theorem lt_pos (b : Fin 272) (s : Fin 8) (v : Fin 32000) :
    LTof (V1 m ρ) c (ix2 (up (rowOf b s)) v) = tL (argsOf m c) b (pos s) v := by
  have h1 : V1 m ρ c Cert.VerifyIdeal.main_arg1 = (argsOf m c).packed := Cert.VerifyIdeal.Gen.W1_args m ρ c _ (by decide)
  have h2 : V1 m ρ c Cert.VerifyIdeal.main_arg2 = (argsOf m c).wt := Cert.VerifyIdeal.Gen.W1_args m ρ c _ (by decide)
  unfold tL tRow LTof Cert.VerifyIdeal.Gen.LT
  rw [h1, h2]
  refine Finset.sum_congr rfl fun k _ => ?_
  exact congrArg (fun z : EReal => z * _) (Cert.VerifyIdeal.Gen.w1_v4_pos m ρ c b s k)

/-- The kernel's target logits of a bonus position. -/
theorem lt_bonus (b : Fin 272) (v : Fin 32000) :
    LTof (V1 m ρ) c (ix2 (bonusRow b) v) = tL (argsOf m c) b 8 v := by
  have h1 : V1 m ρ c Cert.VerifyIdeal.main_arg1 = (argsOf m c).packed := Cert.VerifyIdeal.Gen.W1_args m ρ c _ (by decide)
  have h2 : V1 m ρ c Cert.VerifyIdeal.main_arg2 = (argsOf m c).wt := Cert.VerifyIdeal.Gen.W1_args m ρ c _ (by decide)
  unfold tL tRow LTof Cert.VerifyIdeal.Gen.LT
  rw [h1, h2]
  refine Finset.sum_congr rfl fun k _ => ?_
  exact congrArg (fun z : EReal => z * _) (Cert.VerifyIdeal.Gen.w1_v4_bonus m ρ c b k)

/-- The kernel's draft logits of a position, times the row's scale: the same three factors in another order. -/
theorem ld_pos (b : Fin 272) (s : Fin 8) (v : Fin 32000) :
    LDof (V1 m ρ) c (ix2 (rowOf b s) v) * (argsOf m c).scales (ix2 (rowOf b s) (0 : Fin 128)) = dL (argsOf m c) b s v := by
  have h3 : V1 m ρ c Cert.VerifyIdeal.main_arg3 = (argsOf m c).codes := Cert.VerifyIdeal.Gen.W1_args m ρ c _ (by decide)
  have h5 : V1 m ρ c Cert.VerifyIdeal.main_arg5 = (argsOf m c).wd := Cert.VerifyIdeal.Gen.W1_args m ρ c _ (by decide)
  have h6 : V1 m ρ c Cert.VerifyIdeal.main_v5 (ix2 (0 : Fin 1) v) = (argsOf m c).ws (ix1 v) :=
    Cert.VerifyIdeal.Gen.w1_v5_apply m ρ c v
  have hL : LDof (V1 m ρ) c (ix2 (rowOf b s) v)
      = Cert.ReferenceIdeal.Read.prodOf (argsOf m c).codes (argsOf m c).wd (ix2 (rowOf b s) v) * (argsOf m c).ws (ix1 v) := by
    unfold LDof Cert.VerifyIdeal.Gen.LD
    rw [h3, h5]
    exact congrArg (fun z : EReal => _ * z) h6
  rw [hL, mul_right_comm]
  rfl

/-- The kernel's target distribution of a draft position. -/
theorem rowT_pos (b : Fin 272) (s : Fin 8) : rowT (V3 m ρ) c (up (rowOf b s)) = smx (tL (argsOf m c) b (pos s)) := by
  rw [Cert.VerifyIdeal.Gen.rowT_eq]
  exact congrArg smx (funext fun v => lt_pos m ρ c b s v)

/-- The kernel's target distribution of a bonus position. -/
theorem rowT_bonus (b : Fin 272) : rowT (V3 m ρ) c (bonusRow b) = smx (tL (argsOf m c) b 8) := by
  rw [Cert.VerifyIdeal.Gen.rowT_eq]
  exact congrArg smx (funext fun v => lt_bonus m ρ c b v)

/-- The kernel's draft distribution of a position. -/
theorem rowD_pos (hs : ∀ R : Fin 2176, 0 ≤ (argsOf m c).scales (ix2 R (0 : Fin 128)) ∧ (argsOf m c).scales (ix2 R (0 : Fin 128)) ≠ ⊤)
    (b : Fin 272) (s : Fin 8) : rowD (V3 m ρ) c (rowOf b s) = smx (dL (argsOf m c) b s) := by
  rw [Cert.VerifyIdeal.Gen.rowD_eq m ρ c (rowOf b s) ((argsOf m c).scales (ix2 (rowOf b s) (0 : Fin 128))) rfl (hs _).1 (hs _).2]
  exact congrArg smx (funext fun v => ld_pos m ρ c b s v)

/-! The five results, of the arguments. -/

def out0 (A : Args) (i : Cert.ReferenceIdeal.S272x8x32000.Idx) : EReal := resid (smx (tL A (i 0) (pos (i 1)))) (smx (dL A (i 0) (i 1))) (i 2)
def out1 (A : Args) (i : Cert.ReferenceIdeal.S272x8.Idx) : EReal := Ideal.log (mass (smx (tL A (i 0) (pos (i 1)))) (smx (dL A (i 0) (i 1))))
def out2 (A : Args) (i : Cert.ReferenceIdeal.S272x8.Idx) : EReal :=
  ratio (A.tok (ix2 (i 0) (i 1))) (smx (tL A (i 0) (pos (i 1)))) (smx (dL A (i 0) (i 1)))
def out3 (A : Args) (i : Cert.ReferenceIdeal.S272x8.Idx) : EReal := A.u (ix2 (i 0) (i 1)) - out2 A i
def out4 (A : Args) (i : Cert.ReferenceIdeal.S272x32000.Idx) : EReal := smx (tL A (i 0) 8) (i 1)

section Kernel

variable (hs : ∀ R : Fin 2176, 0 ≤ (argsOf m c).scales (ix2 R (0 : Fin 128)) ∧ (argsOf m c).scales (ix2 R (0 : Fin 128)) ≠ ⊤)
include hs

theorem kernel0 : W6 m ρ c (Proc.devRef .tc Cert.VerifyIdeal.main_v11) = out0 (argsOf m c) := by
  refine funext fun (i : Cert.ReferenceIdeal.S272x8x32000.Idx) => ?_
  obtain ⟨b, s, v, rfl⟩ : ∃ (b : Fin 272) (s : Fin 8) (v : Fin 32000), i = ix3 b s v := ⟨i 0, i 1, i 2, eq_ix3 i⟩
  refine (Cert.VerifyIdeal.Gen.w6_v11_apply m ρ c b s v).trans ?_
  rw [rowT_pos, rowD_pos m ρ c hs]
  rfl

theorem kernel1 : W6 m ρ c (Proc.devRef .tc Cert.VerifyIdeal.main_v12) = out1 (argsOf m c) := by
  refine funext fun (i : Cert.ReferenceIdeal.S272x8.Idx) => ?_
  obtain ⟨b, s, rfl⟩ : ∃ (b : Fin 272) (s : Fin 8), i = ix2 b s := ⟨i 0, i 1, eq_ix2 i⟩
  refine (Cert.VerifyIdeal.Gen.w6_v12_apply m ρ c b s).trans ?_
  rw [rowT_pos, rowD_pos m ρ c hs]
  rfl

theorem kernel2 : W6 m ρ c (Proc.devRef .tc Cert.VerifyIdeal.main_v13) = out2 (argsOf m c) := by
  refine funext fun (i : Cert.ReferenceIdeal.S272x8.Idx) => ?_
  obtain ⟨b, s, rfl⟩ : ∃ (b : Fin 272) (s : Fin 8), i = ix2 b s := ⟨i 0, i 1, eq_ix2 i⟩
  refine (Cert.VerifyIdeal.Gen.w6_v13_apply m ρ c b s).trans ?_
  rw [rowT_pos, rowD_pos m ρ c hs]
  rfl

theorem kernel3 : W6 m ρ c (Proc.devRef .tc Cert.VerifyIdeal.main_v14) = out3 (argsOf m c) := by
  refine funext fun (i : Cert.ReferenceIdeal.S272x8.Idx) => ?_
  obtain ⟨b, s, rfl⟩ : ∃ (b : Fin 272) (s : Fin 8), i = ix2 b s := ⟨i 0, i 1, eq_ix2 i⟩
  refine (Cert.VerifyIdeal.Gen.w6_v14_apply m ρ c b s).trans ?_
  rw [rowT_pos, rowD_pos m ρ c hs]
  rfl

omit hs in
theorem kernel4 : W6 m ρ c (Proc.devRef .tc Cert.VerifyIdeal.main_v10) = out4 (argsOf m c) := by
  refine funext fun (i : Cert.ReferenceIdeal.S272x32000.Idx) => ?_
  obtain ⟨b, v, rfl⟩ : ∃ (b : Fin 272) (v : Fin 32000), i = ix2 b v := ⟨i 0, i 1, eq_ix2 i⟩
  refine (Cert.VerifyIdeal.Gen.w6_v10_apply m ρ c b v).trans ?_
  rw [rowT_bonus]
  rfl

end Kernel

/-! The reference's five results, of the arguments a memory of the reference holds. -/

section Reference

open Cert.ReferenceIdeal.Read Cert.ReferenceIdeal.Value

variable (m' : (ℓ : Loc Cert.ReferenceIdeal.nD Cert.ReferenceIdeal.τ Cert.ReferenceIdeal.sig) → Buf (Elt Ideal) ℓ)
  (d : Dev Cert.ReferenceIdeal.nD)

/-- The arguments a memory of the reference holds. -/
def argsRef : Args where
  x := m' ((d.tc : Thread Cert.ReferenceIdeal.nD Cert.ReferenceIdeal.τ).loc Cert.ReferenceIdeal.main_arg0)
  packed := m' ((d.tc : Thread Cert.ReferenceIdeal.nD Cert.ReferenceIdeal.τ).loc Cert.ReferenceIdeal.main_arg1)
  wt := m' ((d.tc : Thread Cert.ReferenceIdeal.nD Cert.ReferenceIdeal.τ).loc Cert.ReferenceIdeal.main_arg2)
  codes := m' ((d.tc : Thread Cert.ReferenceIdeal.nD Cert.ReferenceIdeal.τ).loc Cert.ReferenceIdeal.main_arg3)
  scales := m' ((d.tc : Thread Cert.ReferenceIdeal.nD Cert.ReferenceIdeal.τ).loc Cert.ReferenceIdeal.main_arg4)
  wd := m' ((d.tc : Thread Cert.ReferenceIdeal.nD Cert.ReferenceIdeal.τ).loc Cert.ReferenceIdeal.main_arg5)
  ws := m' ((d.tc : Thread Cert.ReferenceIdeal.nD Cert.ReferenceIdeal.τ).loc Cert.ReferenceIdeal.main_arg6)
  tok := m' ((d.tc : Thread Cert.ReferenceIdeal.nD Cert.ReferenceIdeal.τ).loc Cert.ReferenceIdeal.main_arg7)
  u := m' ((d.tc : Thread Cert.ReferenceIdeal.nD Cert.ReferenceIdeal.τ).loc Cert.ReferenceIdeal.main_arg8)

theorem exit_x : exitV m' d (Proc.devRef .tc Cert.ReferenceIdeal.main_arg0) = (argsRef m' d).x := exit_main_arg0 m' d
theorem exit_packed : exitV m' d (Proc.devRef .tc Cert.ReferenceIdeal.main_arg1) = (argsRef m' d).packed := exit_main_arg1 m' d
theorem exit_wt : exitV m' d (Proc.devRef .tc Cert.ReferenceIdeal.main_arg2) = (argsRef m' d).wt := exit_main_arg2 m' d
theorem exit_ws : exitV m' d (Proc.devRef .tc Cert.ReferenceIdeal.main_arg6) = (argsRef m' d).ws := exit_main_arg6 m' d
theorem exit_tok : exitV m' d (Proc.devRef .tc Cert.ReferenceIdeal.main_arg7) = (argsRef m' d).tok := exit_main_arg7 m' d
theorem exit_u : exitV m' d (Proc.devRef .tc Cert.ReferenceIdeal.main_arg8) = (argsRef m' d).u := exit_main_arg8 m' d

theorem exit_product : exitV m' d (Proc.devRef .tc Cert.ReferenceIdeal.main_v3)
    = prodOf (argsRef m' d).codes (argsRef m' d).wd :=
  (exit_main_v3 m' d).trans (reg_eq m' d)

theorem exit_scale : exitV m' d (Proc.devRef .tc Cert.ReferenceIdeal.main_v2) = scaleOf (argsRef m' d) := by
  refine funext fun (i : Cert.ReferenceIdeal.S272x8.Idx) => ?_
  obtain ⟨b, s, rfl⟩ : ∃ (b : Fin 272) (s : Fin 8), i = ix2 b s := ⟨i 0, i 1, eq_ix2 i⟩
  exact scale_at m' d b s

theorem reference0 : val_main_v83 (F := Ideal) (exitV m' d (Proc.devRef .tc Cert.ReferenceIdeal.main_arg0))
      (exitV m' d (Proc.devRef .tc Cert.ReferenceIdeal.main_arg1)) (exitV m' d (Proc.devRef .tc Cert.ReferenceIdeal.main_arg2))
      (exitV m' d (Proc.devRef .tc Cert.ReferenceIdeal.main_arg6)) (exitV m' d (Proc.devRef .tc Cert.ReferenceIdeal.main_v3))
      (exitV m' d (Proc.devRef .tc Cert.ReferenceIdeal.main_v2)) = out0 (argsRef m' d) := by
  rw [exit_x, exit_packed, exit_wt, exit_ws, exit_product, exit_scale]
  refine funext fun (i : Cert.ReferenceIdeal.S272x8x32000.Idx) => ?_
  obtain ⟨b, s, v, rfl⟩ : ∃ (b : Fin 272) (s : Fin 8) (v : Fin 32000), i = ix3 b s v := ⟨i 0, i 1, i 2, eq_ix3 i⟩
  exact resid_apply _ _ _ _ _ _ b s v

theorem reference1 : val_main_v84 (F := Ideal) (exitV m' d (Proc.devRef .tc Cert.ReferenceIdeal.main_arg0))
      (exitV m' d (Proc.devRef .tc Cert.ReferenceIdeal.main_arg1)) (exitV m' d (Proc.devRef .tc Cert.ReferenceIdeal.main_arg2))
      (exitV m' d (Proc.devRef .tc Cert.ReferenceIdeal.main_arg6)) (exitV m' d (Proc.devRef .tc Cert.ReferenceIdeal.main_v3))
      (exitV m' d (Proc.devRef .tc Cert.ReferenceIdeal.main_v2)) = out1 (argsRef m' d) := by
  rw [exit_x, exit_packed, exit_wt, exit_ws, exit_product, exit_scale]
  refine funext fun (i : Cert.ReferenceIdeal.S272x8.Idx) => ?_
  obtain ⟨b, s, rfl⟩ : ∃ (b : Fin 272) (s : Fin 8), i = ix2 b s := ⟨i 0, i 1, eq_ix2 i⟩
  exact logMass_apply _ _ _ _ _ _ b s

theorem reference2 : val_main_v74 (F := Ideal) (exitV m' d (Proc.devRef .tc Cert.ReferenceIdeal.main_arg0))
      (exitV m' d (Proc.devRef .tc Cert.ReferenceIdeal.main_arg1)) (exitV m' d (Proc.devRef .tc Cert.ReferenceIdeal.main_arg2))
      (exitV m' d (Proc.devRef .tc Cert.ReferenceIdeal.main_arg6)) (exitV m' d (Proc.devRef .tc Cert.ReferenceIdeal.main_arg7))
      (exitV m' d (Proc.devRef .tc Cert.ReferenceIdeal.main_v3)) (exitV m' d (Proc.devRef .tc Cert.ReferenceIdeal.main_v2))
    = out2 (argsRef m' d) := by
  rw [exit_x, exit_packed, exit_wt, exit_ws, exit_tok, exit_product, exit_scale]
  refine funext fun (i : Cert.ReferenceIdeal.S272x8.Idx) => ?_
  obtain ⟨b, s, rfl⟩ : ∃ (b : Fin 272) (s : Fin 8), i = ix2 b s := ⟨i 0, i 1, eq_ix2 i⟩
  exact ratio_apply _ _ _ _ _ _ _ b s

theorem reference3 : val_main_v75 (F := Ideal) (exitV m' d (Proc.devRef .tc Cert.ReferenceIdeal.main_arg0))
      (exitV m' d (Proc.devRef .tc Cert.ReferenceIdeal.main_arg1)) (exitV m' d (Proc.devRef .tc Cert.ReferenceIdeal.main_arg2))
      (exitV m' d (Proc.devRef .tc Cert.ReferenceIdeal.main_arg6)) (exitV m' d (Proc.devRef .tc Cert.ReferenceIdeal.main_arg7))
      (exitV m' d (Proc.devRef .tc Cert.ReferenceIdeal.main_arg8)) (exitV m' d (Proc.devRef .tc Cert.ReferenceIdeal.main_v3))
      (exitV m' d (Proc.devRef .tc Cert.ReferenceIdeal.main_v2)) = out3 (argsRef m' d) := by
  rw [exit_x, exit_packed, exit_wt, exit_ws, exit_tok, exit_u, exit_product, exit_scale]
  refine funext fun (i : Cert.ReferenceIdeal.S272x8.Idx) => ?_
  obtain ⟨b, s, rfl⟩ : ∃ (b : Fin 272) (s : Fin 8), i = ix2 b s := ⟨i 0, i 1, eq_ix2 i⟩
  exact margin_apply _ _ _ _ _ _ _ _ b s

theorem reference4 : val_main_v87 (F := Ideal) (exitV m' d (Proc.devRef .tc Cert.ReferenceIdeal.main_arg0))
      (exitV m' d (Proc.devRef .tc Cert.ReferenceIdeal.main_arg1)) (exitV m' d (Proc.devRef .tc Cert.ReferenceIdeal.main_arg2))
    = out4 (argsRef m' d) := by
  rw [exit_x, exit_packed, exit_wt]
  refine funext fun (i : Cert.ReferenceIdeal.S272x32000.Idx) => ?_
  obtain ⟨b, v, rfl⟩ : ∃ (b : Fin 272) (v : Fin 32000), i = ix2 b v := ⟨i 0, i 1, eq_ix2 i⟩
  exact bonus_apply _ _ _ b v

end Reference

end Cert.Equation
-- ==== Proof.lean ====
/- Verify's three calls, their idealization and the reference: the five frames, the idealization's meaning, and the equality of the
   five results from every memory whose scales are nonnegative and finite. -/
module

public import proofs.«01_k».proof.Defs
public import proofs.«01_k».proof.Proof.Gen.Verify
public import proofs.«01_k».proof.Proof.Gen.Verify.Skeleton
public import proofs.«01_k».proof.Proof.Gen.Verify.Launch
public import proofs.«01_k».proof.Proof.Gen.Verify.Points
public import proofs.«01_k».proof.Proof.Gen.Verify.Frame
public import proofs.«01_k».proof.Proof.Gen.VerifyIdeal
public import proofs.«01_k».proof.Proof.Gen.VerifyIdeal.Skeleton
public import proofs.«01_k».proof.Proof.Gen.VerifyIdeal.Launch
public import proofs.«01_k».proof.Proof.Gen.VerifyIdeal.Points
public import proofs.«01_k».proof.Proof.Gen.VerifyIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Pre
public import proofs.«01_k».proof.Proof.Run
public import proofs.«01_k».proof.Proof.Equation

@[expose] public section

set_option maxRecDepth 16384

noncomputable section

namespace Cert.Proof

open Idealize.ShloMosaic Idealize.SL.Sem
open Cert.Equation

instance factsVerify : Cert.Verify.Facts := Cert.Verify.Gen.facts
instance factsVerifyIdeal : Cert.VerifyIdeal.Facts := Cert.VerifyIdeal.Gen.facts
instance factsReferenceIdeal : Cert.ReferenceIdeal.Facts := Cert.ReferenceIdeal.Gen.facts

/-- From memories that agree on the arguments, with nonnegative finite scales, both programs end with the same five results. -/
theorem algebraic : Cert.algebraic_VerifyIdeal_ReferenceIdeal_pre_scales_are_finite (hPre_scales_are_finite := preFacts) := by
  intro m g m' g' hpre hagree
  have hA : ∀ c, argsRef m' c = argsOf m c := by
    intro c
    obtain ⟨h0, h1, h2, h3, h4, h5, h6, h7, h8⟩ := hagree c
    unfold argsRef argsOf
    rw [h0, h1, h2, h3, h4, h5, h6, h7, h8]
  have hs : ∀ c (R : Fin 2176), 0 ≤ (argsOf m c).scales (ValueIdx.ix2 R (0 : Fin 128))
      ∧ (argsOf m c).scales (ValueIdx.ix2 R (0 : Fin 128)) ≠ ⊤ :=
    fun c R => @scale_of_pre preFacts m hpre c R _ rfl
  refine ⟨fun c => out0 (argsOf m c), fun c => out1 (argsOf m c), fun c => out2 (argsOf m c), fun c => out3 (argsOf m c),
    fun c => out4 (argsOf m c), (θ_run _ _ _).mono ?_ (Cert.VerifyIdeal.Gen.run_all m g),
    (θ_run _ _ _).mono ?_ (Cert.ReferenceIdeal.Value.run m' g')⟩
  · intro r h c
    obtain ⟨h0, h1, h2, h3, h4, h5⟩ := h c
    exact ⟨h0.trans (kernel0 m g c (hs c)), h1.trans (kernel1 m g c (hs c)), h2.trans (kernel2 m g c (hs c)),
      h3.trans (kernel3 m g c (hs c)), h4.trans (kernel4 m g c), h5⟩
  · intro r h c
    obtain ⟨h0, h1, h2, h3, h4, h5⟩ := h c
    refine ⟨h0.trans ?_, h1.trans ?_, h2.trans ?_, h3.trans ?_, h4.trans ?_, h5⟩
    · exact (Cert.ReferenceIdeal.Read.val_main_v83_eq _).trans ((reference0 m' c).trans (congrArg out0 (hA c)))
    · exact (Cert.ReferenceIdeal.Read.val_main_v84_eq _).trans ((reference1 m' c).trans (congrArg out1 (hA c)))
    · exact (Cert.ReferenceIdeal.Read.val_main_v74_eq _).trans ((reference2 m' c).trans (congrArg out2 (hA c)))
    · exact (Cert.ReferenceIdeal.Read.val_main_v75_eq _).trans ((reference3 m' c).trans (congrArg out3 (hA c)))
    · exact (Cert.ReferenceIdeal.Read.val_main_v87_eq _).trans ((reference4 m' c).trans (congrArg out4 (hA c)))

/-- Everything claimed. -/
theorem claim : Cert.Claim :=
  ⟨Cert.Verify.Gen.facts, Cert.VerifyIdeal.Gen.facts, Cert.ReferenceIdeal.Gen.facts, preFacts,
    fun m ρ _ => Cert.Verify.Gen.frame m ρ, fun m ρ _ => Cert.VerifyIdeal.Gen.frame m ρ,
    fun m ρ _ => Cert.VerifyIdeal.Gen.frame m ρ, fun m ρ _ => Cert.ReferenceIdeal.Gen.frame m ρ,
    fun m ρ _ => Cert.ReferenceIdeal.Gen.frame m ρ, trivial, algebraic⟩

end Cert.Proof

end
